-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x256 : Shape := ⟨2, ![1, 256]⟩
abbrev S15x256 : Shape := ⟨2, ![15, 256]⟩
abbrev S15 : Shape := ⟨1, ![15]⟩
abbrev S_ : Shape := ⟨0, ![]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S4x256 : Shape := ⟨2, ![4, 256]⟩
abbrev S2x256 : Shape := ⟨2, ![2, 256]⟩
abbrev S256 : Shape := ⟨1, ![256]⟩
abbrev S1 : Shape := ⟨1, ![1]⟩
abbrev S255x256 : Shape := ⟨2, ![255, 256]⟩
abbrev S254x256 : Shape := ⟨2, ![254, 256]⟩
abbrev S252x256 : Shape := ⟨2, ![252, 256]⟩
abbrev S248x256 : Shape := ⟨2, ![248, 256]⟩
abbrev S240x256 : Shape := ⟨2, ![240, 256]⟩
abbrev S224x256 : Shape := ⟨2, ![224, 256]⟩
abbrev S192x256 : Shape := ⟨2, ![192, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S1x256, .f32⟩
  | .local _ .vmem, ⟨3, _⟩ => ⟨S15x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_391 : BitVec 32 := 1#32
  let v525 : BitVec 32 := Scalar.subi v2 c1_i32_391
  let c1_i32_393 : BitVec 32 := 1#32
  let v526 : BitVec 32 := Scalar.muli v525 c1_i32_393
  let v527 : BitVec 32 := Scalar.addi c0_i32_394 v526
  v527.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_391 : BitVec 32 := 2#32
  let v525 : BitVec 32 := Scalar.subi v2 c2_i32_391
  let c1_i32_393 : BitVec 32 := 1#32
  let v526 : BitVec 32 := Scalar.muli v525 c1_i32_393
  let v527 : BitVec 32 := Scalar.addi c0_i32_394 v526
  v527.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_391 : BitVec 32 := 3#32
  let v525 : BitVec 32 := Scalar.subi v2 c3_i32_391
  let c1_i32_393 : BitVec 32 := 1#32
  let v526 : BitVec 32 := Scalar.muli v525 c1_i32_393
  let v527 : BitVec 32 := Scalar.addi c0_i32_394 v526
  v527.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 1 := Scalar.cmpi .sge v2 c4_i32
  let v14 : BitVec 32 := Scalar.extui v13
  let c0_i32_3 : BitVec 32 := 0#32
  let v15 : BitVec 1 := Scalar.cmpi .ne v14 c0_i32_3
  v15

def k0_dev4 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_391 : BitVec 32 := 4#32
  let v525 : BitVec 32 := Scalar.subi v2 c4_i32_391
  let c1_i32_393 : BitVec 32 := 1#32
  let v526 : BitVec 32 := Scalar.muli v525 c1_i32_393
  let v527 : BitVec 32 := Scalar.addi c0_i32_394 v526
  v527.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v16 : BitVec 1 := Scalar.cmpi .sge v2 c5_i32
  let v17 : BitVec 32 := Scalar.extui v16
  let c0_i32_4 : BitVec 32 := 0#32
  let v18 : BitVec 1 := Scalar.cmpi .ne v17 c0_i32_4
  v18

def k0_dev5 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_391 : BitVec 32 := 5#32
  let v525 : BitVec 32 := Scalar.subi v2 c5_i32_391
  let c1_i32_393 : BitVec 32 := 1#32
  let v526 : BitVec 32 := Scalar.muli v525 c1_i32_393
  let v527 : BitVec 32 := Scalar.addi c0_i32_394 v526
  v527.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 1 := Scalar.cmpi .sge v2 c6_i32
  let v20 : BitVec 32 := Scalar.extui v19
  let c0_i32_5 : BitVec 32 := 0#32
  let v21 : BitVec 1 := Scalar.cmpi .ne v20 c0_i32_5
  v21

def k0_dev6 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_391 : BitVec 32 := 6#32
  let v525 : BitVec 32 := Scalar.subi v2 c6_i32_391
  let c1_i32_393 : BitVec 32 := 1#32
  let v526 : BitVec 32 := Scalar.muli v525 c1_i32_393
  let v527 : BitVec 32 := Scalar.addi c0_i32_394 v526
  v527.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v22 : BitVec 1 := Scalar.cmpi .sge v2 c7_i32
  let v23 : BitVec 32 := Scalar.extui v22
  let c0_i32_6 : BitVec 32 := 0#32
  let v24 : BitVec 1 := Scalar.cmpi .ne v23 c0_i32_6
  v24

def k0_dev7 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_391 : BitVec 32 := 7#32
  let v525 : BitVec 32 := Scalar.subi v2 c7_i32_391
  let c1_i32_393 : BitVec 32 := 1#32
  let v526 : BitVec 32 := Scalar.muli v525 c1_i32_393
  let v527 : BitVec 32 := Scalar.addi c0_i32_394 v526
  v527.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 1 := Scalar.cmpi .sge v2 c8_i32
  let v26 : BitVec 32 := Scalar.extui v25
  let c0_i32_7 : BitVec 32 := 0#32
  let v27 : BitVec 1 := Scalar.cmpi .ne v26 c0_i32_7
  v27

def k0_dev8 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_391 : BitVec 32 := 8#32
  let v525 : BitVec 32 := Scalar.subi v2 c8_i32_391
  let c1_i32_393 : BitVec 32 := 1#32
  let v526 : BitVec 32 := Scalar.muli v525 c1_i32_393
  let v527 : BitVec 32 := Scalar.addi c0_i32_394 v526
  v527.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v28 : BitVec 1 := Scalar.cmpi .sge v2 c9_i32
  let v29 : BitVec 32 := Scalar.extui v28
  let c0_i32_8 : BitVec 32 := 0#32
  let v30 : BitVec 1 := Scalar.cmpi .ne v29 c0_i32_8
  v30

def k0_dev9 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_391 : BitVec 32 := 9#32
  let v525 : BitVec 32 := Scalar.subi v2 c9_i32_391
  let c1_i32_393 : BitVec 32 := 1#32
  let v526 : BitVec 32 := Scalar.muli v525 c1_i32_393
  let v527 : BitVec 32 := Scalar.addi c0_i32_394 v526
  v527.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v31 : BitVec 1 := Scalar.cmpi .sge v2 c10_i32
  let v32 : BitVec 32 := Scalar.extui v31
  let c0_i32_9 : BitVec 32 := 0#32
  let v33 : BitVec 1 := Scalar.cmpi .ne v32 c0_i32_9
  v33

def k0_dev10 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_391 : BitVec 32 := 10#32
  let v525 : BitVec 32 := Scalar.subi v2 c10_i32_391
  let c1_i32_393 : BitVec 32 := 1#32
  let v526 : BitVec 32 := Scalar.muli v525 c1_i32_393
  let v527 : BitVec 32 := Scalar.addi c0_i32_394 v526
  v527.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v34 : BitVec 1 := Scalar.cmpi .sge v2 c11_i32
  let v35 : BitVec 32 := Scalar.extui v34
  let c0_i32_10 : BitVec 32 := 0#32
  let v36 : BitVec 1 := Scalar.cmpi .ne v35 c0_i32_10
  v36

def k0_dev11 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_391 : BitVec 32 := 11#32
  let v525 : BitVec 32 := Scalar.subi v2 c11_i32_391
  let c1_i32_393 : BitVec 32 := 1#32
  let v526 : BitVec 32 := Scalar.muli v525 c1_i32_393
  let v527 : BitVec 32 := Scalar.addi c0_i32_394 v526
  v527.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v37 : BitVec 1 := Scalar.cmpi .sge v2 c12_i32
  let v38 : BitVec 32 := Scalar.extui v37
  let c0_i32_11 : BitVec 32 := 0#32
  let v39 : BitVec 1 := Scalar.cmpi .ne v38 c0_i32_11
  v39

def k0_dev12 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_391 : BitVec 32 := 12#32
  let v525 : BitVec 32 := Scalar.subi v2 c12_i32_391
  let c1_i32_393 : BitVec 32 := 1#32
  let v526 : BitVec 32 := Scalar.muli v525 c1_i32_393
  let v527 : BitVec 32 := Scalar.addi c0_i32_394 v526
  v527.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v40 : BitVec 1 := Scalar.cmpi .sge v2 c13_i32
  let v41 : BitVec 32 := Scalar.extui v40
  let c0_i32_12 : BitVec 32 := 0#32
  let v42 : BitVec 1 := Scalar.cmpi .ne v41 c0_i32_12
  v42

def k0_dev13 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_391 : BitVec 32 := 13#32
  let v525 : BitVec 32 := Scalar.subi v2 c13_i32_391
  let c1_i32_393 : BitVec 32 := 1#32
  let v526 : BitVec 32 := Scalar.muli v525 c1_i32_393
  let v527 : BitVec 32 := Scalar.addi c0_i32_394 v526
  v527.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 1 := Scalar.cmpi .sge v2 c14_i32
  let v44 : BitVec 32 := Scalar.extui v43
  let c0_i32_13 : BitVec 32 := 0#32
  let v45 : BitVec 1 := Scalar.cmpi .ne v44 c0_i32_13
  v45

def k0_dev14 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_391 : BitVec 32 := 14#32
  let v525 : BitVec 32 := Scalar.subi v2 c14_i32_391
  let c1_i32_393 : BitVec 32 := 1#32
  let v526 : BitVec 32 := Scalar.muli v525 c1_i32_393
  let v527 : BitVec 32 := Scalar.addi c0_i32_394 v526
  v527.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v46 : BitVec 1 := Scalar.cmpi .sge v2 c15_i32
  let v47 : BitVec 32 := Scalar.extui v46
  let c0_i32_14 : BitVec 32 := 0#32
  let v48 : BitVec 1 := Scalar.cmpi .ne v47 c0_i32_14
  v48

def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_391 : BitVec 32 := 15#32
  let v525 : BitVec 32 := Scalar.subi v2 c15_i32_391
  let c1_i32_393 : BitVec 32 := 1#32
  let v526 : BitVec 32 := Scalar.muli v525 c1_i32_393
  let v527 : BitVec 32 := Scalar.addi c0_i32_394 v526
  v527.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_70 : BitVec 32 := 1#32
  let v151 : BitVec 32 := Scalar.addi v2 c1_i32_70
  let c16_i32_71 : BitVec 32 := 16#32
  let v152 : BitVec 1 := Scalar.cmpi .slt v151 c16_i32_71
  let v153 : BitVec 32 := Scalar.extui v152
  let c0_i32_74 : BitVec 32 := 0#32
  let v154 : BitVec 1 := Scalar.cmpi .ne v153 c0_i32_74
  v154

def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v140 : BitVec 32 := Scalar.addi v2 c1_i32_63
  let c16_i32_64 : BitVec 32 := 16#32
  let c0_i32_65 : BitVec 32 := 0#32
  let v141 : BitVec 1 := Scalar.cmpi .eq c16_i32_64 c0_i32_65
  let c1_i32_66 : BitVec 32 := 1#32
  let v142 : BitVec 32 := Scalar.select v141 c1_i32_66 c16_i32_64
  let v143 : BitVec 32 := Scalar.remsi v140 v142
  let c0_i32_68 : BitVec 32 := 0#32
  let v145 : BitVec 1 := Scalar.cmpi .slt v143 c0_i32_68
  let c0_i32_69 : BitVec 32 := 0#32
  let v146 : BitVec 1 := Scalar.cmpi .slt v142 c0_i32_69
  let v147 : BitVec 1 := Scalar.xori v145 v146
  let c0_i32_67 : BitVec 32 := 0#32
  let v144 : BitVec 1 := Scalar.cmpi .ne v143 c0_i32_67
  let v148 : BitVec 1 := Scalar.andi v147 v144
  let v149 : BitVec 32 := Scalar.addi v143 v142
  let v150 : BitVec 32 := Scalar.select v148 v149 v143
  let c1_i32_391 : BitVec 32 := 1#32
  let v525 : BitVec 32 := Scalar.muli v150 c1_i32_391
  let v526 : BitVec 32 := Scalar.addi c0_i32_392 v525
  v526.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_82 : BitVec 32 := 2#32
  let v166 : BitVec 32 := Scalar.addi v2 c2_i32_82
  let c16_i32_83 : BitVec 32 := 16#32
  let v167 : BitVec 1 := Scalar.cmpi .slt v166 c16_i32_83
  let v168 : BitVec 32 := Scalar.extui v167
  let c0_i32_86 : BitVec 32 := 0#32
  let v169 : BitVec 1 := Scalar.cmpi .ne v168 c0_i32_86
  v169

def k0_dev17 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v155 : BitVec 32 := Scalar.addi v2 c2_i32_75
  let c16_i32_76 : BitVec 32 := 16#32
  let c0_i32_77 : BitVec 32 := 0#32
  let v156 : BitVec 1 := Scalar.cmpi .eq c16_i32_76 c0_i32_77
  let c1_i32_78 : BitVec 32 := 1#32
  let v157 : BitVec 32 := Scalar.select v156 c1_i32_78 c16_i32_76
  let v158 : BitVec 32 := Scalar.remsi v155 v157
  let c0_i32_80 : BitVec 32 := 0#32
  let v160 : BitVec 1 := Scalar.cmpi .slt v158 c0_i32_80
  let c0_i32_81 : BitVec 32 := 0#32
  let v161 : BitVec 1 := Scalar.cmpi .slt v157 c0_i32_81
  let v162 : BitVec 1 := Scalar.xori v160 v161
  let c0_i32_79 : BitVec 32 := 0#32
  let v159 : BitVec 1 := Scalar.cmpi .ne v158 c0_i32_79
  let v163 : BitVec 1 := Scalar.andi v162 v159
  let v164 : BitVec 32 := Scalar.addi v158 v157
  let v165 : BitVec 32 := Scalar.select v163 v164 v158
  let c1_i32_391 : BitVec 32 := 1#32
  let v525 : BitVec 32 := Scalar.muli v165 c1_i32_391
  let v526 : BitVec 32 := Scalar.addi c0_i32_392 v525
  v526.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_94 : BitVec 32 := 3#32
  let v181 : BitVec 32 := Scalar.addi v2 c3_i32_94
  let c16_i32_95 : BitVec 32 := 16#32
  let v182 : BitVec 1 := Scalar.cmpi .slt v181 c16_i32_95
  let v183 : BitVec 32 := Scalar.extui v182
  let c0_i32_98 : BitVec 32 := 0#32
  let v184 : BitVec 1 := Scalar.cmpi .ne v183 c0_i32_98
  v184

def k0_dev18 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v170 : BitVec 32 := Scalar.addi v2 c3_i32_87
  let c16_i32_88 : BitVec 32 := 16#32
  let c0_i32_89 : BitVec 32 := 0#32
  let v171 : BitVec 1 := Scalar.cmpi .eq c16_i32_88 c0_i32_89
  let c1_i32_90 : BitVec 32 := 1#32
  let v172 : BitVec 32 := Scalar.select v171 c1_i32_90 c16_i32_88
  let v173 : BitVec 32 := Scalar.remsi v170 v172
  let c0_i32_92 : BitVec 32 := 0#32
  let v175 : BitVec 1 := Scalar.cmpi .slt v173 c0_i32_92
  let c0_i32_93 : BitVec 32 := 0#32
  let v176 : BitVec 1 := Scalar.cmpi .slt v172 c0_i32_93
  let v177 : BitVec 1 := Scalar.xori v175 v176
  let c0_i32_91 : BitVec 32 := 0#32
  let v174 : BitVec 1 := Scalar.cmpi .ne v173 c0_i32_91
  let v178 : BitVec 1 := Scalar.andi v177 v174
  let v179 : BitVec 32 := Scalar.addi v173 v172
  let v180 : BitVec 32 := Scalar.select v178 v179 v173
  let c1_i32_391 : BitVec 32 := 1#32
  let v525 : BitVec 32 := Scalar.muli v180 c1_i32_391
  let v526 : BitVec 32 := Scalar.addi c0_i32_392 v525
  v526.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_106 : BitVec 32 := 4#32
  let v196 : BitVec 32 := Scalar.addi v2 c4_i32_106
  let c16_i32_107 : BitVec 32 := 16#32
  let v197 : BitVec 1 := Scalar.cmpi .slt v196 c16_i32_107
  let v198 : BitVec 32 := Scalar.extui v197
  let c0_i32_110 : BitVec 32 := 0#32
  let v199 : BitVec 1 := Scalar.cmpi .ne v198 c0_i32_110
  v199

def k0_dev19 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_99 : BitVec 32 := 4#32
  let v185 : BitVec 32 := Scalar.addi v2 c4_i32_99
  let c16_i32_100 : BitVec 32 := 16#32
  let c0_i32_101 : BitVec 32 := 0#32
  let v186 : BitVec 1 := Scalar.cmpi .eq c16_i32_100 c0_i32_101
  let c1_i32_102 : BitVec 32 := 1#32
  let v187 : BitVec 32 := Scalar.select v186 c1_i32_102 c16_i32_100
  let v188 : BitVec 32 := Scalar.remsi v185 v187
  let c0_i32_104 : BitVec 32 := 0#32
  let v190 : BitVec 1 := Scalar.cmpi .slt v188 c0_i32_104
  let c0_i32_105 : BitVec 32 := 0#32
  let v191 : BitVec 1 := Scalar.cmpi .slt v187 c0_i32_105
  let v192 : BitVec 1 := Scalar.xori v190 v191
  let c0_i32_103 : BitVec 32 := 0#32
  let v189 : BitVec 1 := Scalar.cmpi .ne v188 c0_i32_103
  let v193 : BitVec 1 := Scalar.andi v192 v189
  let v194 : BitVec 32 := Scalar.addi v188 v187
  let v195 : BitVec 32 := Scalar.select v193 v194 v188
  let c1_i32_391 : BitVec 32 := 1#32
  let v525 : BitVec 32 := Scalar.muli v195 c1_i32_391
  let v526 : BitVec 32 := Scalar.addi c0_i32_392 v525
  v526.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_118 : BitVec 32 := 5#32
  let v211 : BitVec 32 := Scalar.addi v2 c5_i32_118
  let c16_i32_119 : BitVec 32 := 16#32
  let v212 : BitVec 1 := Scalar.cmpi .slt v211 c16_i32_119
  let v213 : BitVec 32 := Scalar.extui v212
  let c0_i32_122 : BitVec 32 := 0#32
  let v214 : BitVec 1 := Scalar.cmpi .ne v213 c0_i32_122
  v214

def k0_dev20 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_111 : BitVec 32 := 5#32
  let v200 : BitVec 32 := Scalar.addi v2 c5_i32_111
  let c16_i32_112 : BitVec 32 := 16#32
  let c0_i32_113 : BitVec 32 := 0#32
  let v201 : BitVec 1 := Scalar.cmpi .eq c16_i32_112 c0_i32_113
  let c1_i32_114 : BitVec 32 := 1#32
  let v202 : BitVec 32 := Scalar.select v201 c1_i32_114 c16_i32_112
  let v203 : BitVec 32 := Scalar.remsi v200 v202
  let c0_i32_116 : BitVec 32 := 0#32
  let v205 : BitVec 1 := Scalar.cmpi .slt v203 c0_i32_116
  let c0_i32_117 : BitVec 32 := 0#32
  let v206 : BitVec 1 := Scalar.cmpi .slt v202 c0_i32_117
  let v207 : BitVec 1 := Scalar.xori v205 v206
  let c0_i32_115 : BitVec 32 := 0#32
  let v204 : BitVec 1 := Scalar.cmpi .ne v203 c0_i32_115
  let v208 : BitVec 1 := Scalar.andi v207 v204
  let v209 : BitVec 32 := Scalar.addi v203 v202
  let v210 : BitVec 32 := Scalar.select v208 v209 v203
  let c1_i32_391 : BitVec 32 := 1#32
  let v525 : BitVec 32 := Scalar.muli v210 c1_i32_391
  let v526 : BitVec 32 := Scalar.addi c0_i32_392 v525
  v526.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v226 : BitVec 32 := Scalar.addi v2 c6_i32_130
  let c16_i32_131 : BitVec 32 := 16#32
  let v227 : BitVec 1 := Scalar.cmpi .slt v226 c16_i32_131
  let v228 : BitVec 32 := Scalar.extui v227
  let c0_i32_134 : BitVec 32 := 0#32
  let v229 : BitVec 1 := Scalar.cmpi .ne v228 c0_i32_134
  v229

def k0_dev21 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_123 : BitVec 32 := 6#32
  let v215 : BitVec 32 := Scalar.addi v2 c6_i32_123
  let c16_i32_124 : BitVec 32 := 16#32
  let c0_i32_125 : BitVec 32 := 0#32
  let v216 : BitVec 1 := Scalar.cmpi .eq c16_i32_124 c0_i32_125
  let c1_i32_126 : BitVec 32 := 1#32
  let v217 : BitVec 32 := Scalar.select v216 c1_i32_126 c16_i32_124
  let v218 : BitVec 32 := Scalar.remsi v215 v217
  let c0_i32_128 : BitVec 32 := 0#32
  let v220 : BitVec 1 := Scalar.cmpi .slt v218 c0_i32_128
  let c0_i32_129 : BitVec 32 := 0#32
  let v221 : BitVec 1 := Scalar.cmpi .slt v217 c0_i32_129
  let v222 : BitVec 1 := Scalar.xori v220 v221
  let c0_i32_127 : BitVec 32 := 0#32
  let v219 : BitVec 1 := Scalar.cmpi .ne v218 c0_i32_127
  let v223 : BitVec 1 := Scalar.andi v222 v219
  let v224 : BitVec 32 := Scalar.addi v218 v217
  let v225 : BitVec 32 := Scalar.select v223 v224 v218
  let c1_i32_391 : BitVec 32 := 1#32
  let v525 : BitVec 32 := Scalar.muli v225 c1_i32_391
  let v526 : BitVec 32 := Scalar.addi c0_i32_392 v525
  v526.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_142 : BitVec 32 := 7#32
  let v241 : BitVec 32 := Scalar.addi v2 c7_i32_142
  let c16_i32_143 : BitVec 32 := 16#32
  let v242 : BitVec 1 := Scalar.cmpi .slt v241 c16_i32_143
  let v243 : BitVec 32 := Scalar.extui v242
  let c0_i32_146 : BitVec 32 := 0#32
  let v244 : BitVec 1 := Scalar.cmpi .ne v243 c0_i32_146
  v244

def k0_dev22 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_135 : BitVec 32 := 7#32
  let v230 : BitVec 32 := Scalar.addi v2 c7_i32_135
  let c16_i32_136 : BitVec 32 := 16#32
  let c0_i32_137 : BitVec 32 := 0#32
  let v231 : BitVec 1 := Scalar.cmpi .eq c16_i32_136 c0_i32_137
  let c1_i32_138 : BitVec 32 := 1#32
  let v232 : BitVec 32 := Scalar.select v231 c1_i32_138 c16_i32_136
  let v233 : BitVec 32 := Scalar.remsi v230 v232
  let c0_i32_140 : BitVec 32 := 0#32
  let v235 : BitVec 1 := Scalar.cmpi .slt v233 c0_i32_140
  let c0_i32_141 : BitVec 32 := 0#32
  let v236 : BitVec 1 := Scalar.cmpi .slt v232 c0_i32_141
  let v237 : BitVec 1 := Scalar.xori v235 v236
  let c0_i32_139 : BitVec 32 := 0#32
  let v234 : BitVec 1 := Scalar.cmpi .ne v233 c0_i32_139
  let v238 : BitVec 1 := Scalar.andi v237 v234
  let v239 : BitVec 32 := Scalar.addi v233 v232
  let v240 : BitVec 32 := Scalar.select v238 v239 v233
  let c1_i32_391 : BitVec 32 := 1#32
  let v525 : BitVec 32 := Scalar.muli v240 c1_i32_391
  let v526 : BitVec 32 := Scalar.addi c0_i32_392 v525
  v526.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_154 : BitVec 32 := 8#32
  let v256 : BitVec 32 := Scalar.addi v2 c8_i32_154
  let c16_i32_155 : BitVec 32 := 16#32
  let v257 : BitVec 1 := Scalar.cmpi .slt v256 c16_i32_155
  let v258 : BitVec 32 := Scalar.extui v257
  let c0_i32_158 : BitVec 32 := 0#32
  let v259 : BitVec 1 := Scalar.cmpi .ne v258 c0_i32_158
  v259

def k0_dev23 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_147 : BitVec 32 := 8#32
  let v245 : BitVec 32 := Scalar.addi v2 c8_i32_147
  let c16_i32_148 : BitVec 32 := 16#32
  let c0_i32_149 : BitVec 32 := 0#32
  let v246 : BitVec 1 := Scalar.cmpi .eq c16_i32_148 c0_i32_149
  let c1_i32_150 : BitVec 32 := 1#32
  let v247 : BitVec 32 := Scalar.select v246 c1_i32_150 c16_i32_148
  let v248 : BitVec 32 := Scalar.remsi v245 v247
  let c0_i32_152 : BitVec 32 := 0#32
  let v250 : BitVec 1 := Scalar.cmpi .slt v248 c0_i32_152
  let c0_i32_153 : BitVec 32 := 0#32
  let v251 : BitVec 1 := Scalar.cmpi .slt v247 c0_i32_153
  let v252 : BitVec 1 := Scalar.xori v250 v251
  let c0_i32_151 : BitVec 32 := 0#32
  let v249 : BitVec 1 := Scalar.cmpi .ne v248 c0_i32_151
  let v253 : BitVec 1 := Scalar.andi v252 v249
  let v254 : BitVec 32 := Scalar.addi v248 v247
  let v255 : BitVec 32 := Scalar.select v253 v254 v248
  let c1_i32_391 : BitVec 32 := 1#32
  let v525 : BitVec 32 := Scalar.muli v255 c1_i32_391
  let v526 : BitVec 32 := Scalar.addi c0_i32_392 v525
  v526.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_166 : BitVec 32 := 9#32
  let v271 : BitVec 32 := Scalar.addi v2 c9_i32_166
  let c16_i32_167 : BitVec 32 := 16#32
  let v272 : BitVec 1 := Scalar.cmpi .slt v271 c16_i32_167
  let v273 : BitVec 32 := Scalar.extui v272
  let c0_i32_170 : BitVec 32 := 0#32
  let v274 : BitVec 1 := Scalar.cmpi .ne v273 c0_i32_170
  v274

def k0_dev24 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_159 : BitVec 32 := 9#32
  let v260 : BitVec 32 := Scalar.addi v2 c9_i32_159
  let c16_i32_160 : BitVec 32 := 16#32
  let c0_i32_161 : BitVec 32 := 0#32
  let v261 : BitVec 1 := Scalar.cmpi .eq c16_i32_160 c0_i32_161
  let c1_i32_162 : BitVec 32 := 1#32
  let v262 : BitVec 32 := Scalar.select v261 c1_i32_162 c16_i32_160
  let v263 : BitVec 32 := Scalar.remsi v260 v262
  let c0_i32_164 : BitVec 32 := 0#32
  let v265 : BitVec 1 := Scalar.cmpi .slt v263 c0_i32_164
  let c0_i32_165 : BitVec 32 := 0#32
  let v266 : BitVec 1 := Scalar.cmpi .slt v262 c0_i32_165
  let v267 : BitVec 1 := Scalar.xori v265 v266
  let c0_i32_163 : BitVec 32 := 0#32
  let v264 : BitVec 1 := Scalar.cmpi .ne v263 c0_i32_163
  let v268 : BitVec 1 := Scalar.andi v267 v264
  let v269 : BitVec 32 := Scalar.addi v263 v262
  let v270 : BitVec 32 := Scalar.select v268 v269 v263
  let c1_i32_391 : BitVec 32 := 1#32
  let v525 : BitVec 32 := Scalar.muli v270 c1_i32_391
  let v526 : BitVec 32 := Scalar.addi c0_i32_392 v525
  v526.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_178 : BitVec 32 := 10#32
  let v286 : BitVec 32 := Scalar.addi v2 c10_i32_178
  let c16_i32_179 : BitVec 32 := 16#32
  let v287 : BitVec 1 := Scalar.cmpi .slt v286 c16_i32_179
  let v288 : BitVec 32 := Scalar.extui v287
  let c0_i32_182 : BitVec 32 := 0#32
  let v289 : BitVec 1 := Scalar.cmpi .ne v288 c0_i32_182
  v289

def k0_dev25 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_171 : BitVec 32 := 10#32
  let v275 : BitVec 32 := Scalar.addi v2 c10_i32_171
  let c16_i32_172 : BitVec 32 := 16#32
  let c0_i32_173 : BitVec 32 := 0#32
  let v276 : BitVec 1 := Scalar.cmpi .eq c16_i32_172 c0_i32_173
  let c1_i32_174 : BitVec 32 := 1#32
  let v277 : BitVec 32 := Scalar.select v276 c1_i32_174 c16_i32_172
  let v278 : BitVec 32 := Scalar.remsi v275 v277
  let c0_i32_176 : BitVec 32 := 0#32
  let v280 : BitVec 1 := Scalar.cmpi .slt v278 c0_i32_176
  let c0_i32_177 : BitVec 32 := 0#32
  let v281 : BitVec 1 := Scalar.cmpi .slt v277 c0_i32_177
  let v282 : BitVec 1 := Scalar.xori v280 v281
  let c0_i32_175 : BitVec 32 := 0#32
  let v279 : BitVec 1 := Scalar.cmpi .ne v278 c0_i32_175
  let v283 : BitVec 1 := Scalar.andi v282 v279
  let v284 : BitVec 32 := Scalar.addi v278 v277
  let v285 : BitVec 32 := Scalar.select v283 v284 v278
  let c1_i32_391 : BitVec 32 := 1#32
  let v525 : BitVec 32 := Scalar.muli v285 c1_i32_391
  let v526 : BitVec 32 := Scalar.addi c0_i32_392 v525
  v526.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_190 : BitVec 32 := 11#32
  let v301 : BitVec 32 := Scalar.addi v2 c11_i32_190
  let c16_i32_191 : BitVec 32 := 16#32
  let v302 : BitVec 1 := Scalar.cmpi .slt v301 c16_i32_191
  let v303 : BitVec 32 := Scalar.extui v302
  let c0_i32_194 : BitVec 32 := 0#32
  let v304 : BitVec 1 := Scalar.cmpi .ne v303 c0_i32_194
  v304

def k0_dev26 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_183 : BitVec 32 := 11#32
  let v290 : BitVec 32 := Scalar.addi v2 c11_i32_183
  let c16_i32_184 : BitVec 32 := 16#32
  let c0_i32_185 : BitVec 32 := 0#32
  let v291 : BitVec 1 := Scalar.cmpi .eq c16_i32_184 c0_i32_185
  let c1_i32_186 : BitVec 32 := 1#32
  let v292 : BitVec 32 := Scalar.select v291 c1_i32_186 c16_i32_184
  let v293 : BitVec 32 := Scalar.remsi v290 v292
  let c0_i32_188 : BitVec 32 := 0#32
  let v295 : BitVec 1 := Scalar.cmpi .slt v293 c0_i32_188
  let c0_i32_189 : BitVec 32 := 0#32
  let v296 : BitVec 1 := Scalar.cmpi .slt v292 c0_i32_189
  let v297 : BitVec 1 := Scalar.xori v295 v296
  let c0_i32_187 : BitVec 32 := 0#32
  let v294 : BitVec 1 := Scalar.cmpi .ne v293 c0_i32_187
  let v298 : BitVec 1 := Scalar.andi v297 v294
  let v299 : BitVec 32 := Scalar.addi v293 v292
  let v300 : BitVec 32 := Scalar.select v298 v299 v293
  let c1_i32_391 : BitVec 32 := 1#32
  let v525 : BitVec 32 := Scalar.muli v300 c1_i32_391
  let v526 : BitVec 32 := Scalar.addi c0_i32_392 v525
  v526.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_202 : BitVec 32 := 12#32
  let v316 : BitVec 32 := Scalar.addi v2 c12_i32_202
  let c16_i32_203 : BitVec 32 := 16#32
  let v317 : BitVec 1 := Scalar.cmpi .slt v316 c16_i32_203
  let v318 : BitVec 32 := Scalar.extui v317
  let c0_i32_206 : BitVec 32 := 0#32
  let v319 : BitVec 1 := Scalar.cmpi .ne v318 c0_i32_206
  v319

def k0_dev27 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_195 : BitVec 32 := 12#32
  let v305 : BitVec 32 := Scalar.addi v2 c12_i32_195
  let c16_i32_196 : BitVec 32 := 16#32
  let c0_i32_197 : BitVec 32 := 0#32
  let v306 : BitVec 1 := Scalar.cmpi .eq c16_i32_196 c0_i32_197
  let c1_i32_198 : BitVec 32 := 1#32
  let v307 : BitVec 32 := Scalar.select v306 c1_i32_198 c16_i32_196
  let v308 : BitVec 32 := Scalar.remsi v305 v307
  let c0_i32_200 : BitVec 32 := 0#32
  let v310 : BitVec 1 := Scalar.cmpi .slt v308 c0_i32_200
  let c0_i32_201 : BitVec 32 := 0#32
  let v311 : BitVec 1 := Scalar.cmpi .slt v307 c0_i32_201
  let v312 : BitVec 1 := Scalar.xori v310 v311
  let c0_i32_199 : BitVec 32 := 0#32
  let v309 : BitVec 1 := Scalar.cmpi .ne v308 c0_i32_199
  let v313 : BitVec 1 := Scalar.andi v312 v309
  let v314 : BitVec 32 := Scalar.addi v308 v307
  let v315 : BitVec 32 := Scalar.select v313 v314 v308
  let c1_i32_391 : BitVec 32 := 1#32
  let v525 : BitVec 32 := Scalar.muli v315 c1_i32_391
  let v526 : BitVec 32 := Scalar.addi c0_i32_392 v525
  v526.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_214 : BitVec 32 := 13#32
  let v331 : BitVec 32 := Scalar.addi v2 c13_i32_214
  let c16_i32_215 : BitVec 32 := 16#32
  let v332 : BitVec 1 := Scalar.cmpi .slt v331 c16_i32_215
  let v333 : BitVec 32 := Scalar.extui v332
  let c0_i32_218 : BitVec 32 := 0#32
  let v334 : BitVec 1 := Scalar.cmpi .ne v333 c0_i32_218
  v334

def k0_dev28 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_207 : BitVec 32 := 13#32
  let v320 : BitVec 32 := Scalar.addi v2 c13_i32_207
  let c16_i32_208 : BitVec 32 := 16#32
  let c0_i32_209 : BitVec 32 := 0#32
  let v321 : BitVec 1 := Scalar.cmpi .eq c16_i32_208 c0_i32_209
  let c1_i32_210 : BitVec 32 := 1#32
  let v322 : BitVec 32 := Scalar.select v321 c1_i32_210 c16_i32_208
  let v323 : BitVec 32 := Scalar.remsi v320 v322
  let c0_i32_212 : BitVec 32 := 0#32
  let v325 : BitVec 1 := Scalar.cmpi .slt v323 c0_i32_212
  let c0_i32_213 : BitVec 32 := 0#32
  let v326 : BitVec 1 := Scalar.cmpi .slt v322 c0_i32_213
  let v327 : BitVec 1 := Scalar.xori v325 v326
  let c0_i32_211 : BitVec 32 := 0#32
  let v324 : BitVec 1 := Scalar.cmpi .ne v323 c0_i32_211
  let v328 : BitVec 1 := Scalar.andi v327 v324
  let v329 : BitVec 32 := Scalar.addi v323 v322
  let v330 : BitVec 32 := Scalar.select v328 v329 v323
  let c1_i32_391 : BitVec 32 := 1#32
  let v525 : BitVec 32 := Scalar.muli v330 c1_i32_391
  let v526 : BitVec 32 := Scalar.addi c0_i32_392 v525
  v526.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_226 : BitVec 32 := 14#32
  let v346 : BitVec 32 := Scalar.addi v2 c14_i32_226
  let c16_i32_227 : BitVec 32 := 16#32
  let v347 : BitVec 1 := Scalar.cmpi .slt v346 c16_i32_227
  let v348 : BitVec 32 := Scalar.extui v347
  let c0_i32_230 : BitVec 32 := 0#32
  let v349 : BitVec 1 := Scalar.cmpi .ne v348 c0_i32_230
  v349

def k0_dev29 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_219 : BitVec 32 := 14#32
  let v335 : BitVec 32 := Scalar.addi v2 c14_i32_219
  let c16_i32_220 : BitVec 32 := 16#32
  let c0_i32_221 : BitVec 32 := 0#32
  let v336 : BitVec 1 := Scalar.cmpi .eq c16_i32_220 c0_i32_221
  let c1_i32_222 : BitVec 32 := 1#32
  let v337 : BitVec 32 := Scalar.select v336 c1_i32_222 c16_i32_220
  let v338 : BitVec 32 := Scalar.remsi v335 v337
  let c0_i32_224 : BitVec 32 := 0#32
  let v340 : BitVec 1 := Scalar.cmpi .slt v338 c0_i32_224
  let c0_i32_225 : BitVec 32 := 0#32
  let v341 : BitVec 1 := Scalar.cmpi .slt v337 c0_i32_225
  let v342 : BitVec 1 := Scalar.xori v340 v341
  let c0_i32_223 : BitVec 32 := 0#32
  let v339 : BitVec 1 := Scalar.cmpi .ne v338 c0_i32_223
  let v343 : BitVec 1 := Scalar.andi v342 v339
  let v344 : BitVec 32 := Scalar.addi v338 v337
  let v345 : BitVec 32 := Scalar.select v343 v344 v338
  let c1_i32_391 : BitVec 32 := 1#32
  let v525 : BitVec 32 := Scalar.muli v345 c1_i32_391
  let v526 : BitVec 32 := Scalar.addi c0_i32_392 v525
  v526.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_238 : BitVec 32 := 15#32
  let v361 : BitVec 32 := Scalar.addi v2 c15_i32_238
  let c16_i32_239 : BitVec 32 := 16#32
  let v362 : BitVec 1 := Scalar.cmpi .slt v361 c16_i32_239
  let v363 : BitVec 32 := Scalar.extui v362
  let c0_i32_242 : BitVec 32 := 0#32
  let v364 : BitVec 1 := Scalar.cmpi .ne v363 c0_i32_242
  v364

def k0_dev30 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v350 : BitVec 32 := Scalar.addi v2 c15_i32_231
  let c16_i32_232 : BitVec 32 := 16#32
  let c0_i32_233 : BitVec 32 := 0#32
  let v351 : BitVec 1 := Scalar.cmpi .eq c16_i32_232 c0_i32_233
  let c1_i32_234 : BitVec 32 := 1#32
  let v352 : BitVec 32 := Scalar.select v351 c1_i32_234 c16_i32_232
  let v353 : BitVec 32 := Scalar.remsi v350 v352
  let c0_i32_236 : BitVec 32 := 0#32
  let v355 : BitVec 1 := Scalar.cmpi .slt v353 c0_i32_236
  let c0_i32_237 : BitVec 32 := 0#32
  let v356 : BitVec 1 := Scalar.cmpi .slt v352 c0_i32_237
  let v357 : BitVec 1 := Scalar.xori v355 v356
  let c0_i32_235 : BitVec 32 := 0#32
  let v354 : BitVec 1 := Scalar.cmpi .ne v353 c0_i32_235
  let v358 : BitVec 1 := Scalar.andi v357 v354
  let v359 : BitVec 32 := Scalar.addi v353 v352
  let v360 : BitVec 32 := Scalar.select v358 v359 v353
  let c1_i32_391 : BitVec 32 := 1#32
  let v525 : BitVec 32 := Scalar.muli v360 c1_i32_391
  let v526 : BitVec 32 := Scalar.addi c0_i32_392 v525
  v526.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x256, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S4096x256, .f32⟩
  | .hbm, ⟨6, _⟩ => ⟨S_, .i32⟩
  | .hbm, ⟨7, _⟩ => ⟨S4096x256, .f32⟩
  | .hbm, ⟨8, _⟩ => ⟨S_, .i32⟩
  | .hbm, ⟨9, _⟩ => ⟨S256, .f32⟩
  | .hbm, ⟨10, _⟩ => ⟨S4096x256, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S_, .i32⟩
  | .hbm, ⟨19, _⟩ => ⟨S4096x256, .f32⟩
  | .hbm, ⟨20, _⟩ => ⟨S_, .i32⟩
  | .hbm, ⟨21, _⟩ => ⟨S_, .i32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_v5 : Ref sig .tc := ⟨.hbm, 16, rfl⟩
abbrev main_while0b_call1_v0 : Ref sig .tc := ⟨.hbm, 17, rfl⟩
abbrev main_while0b_call1_c : Ref sig .tc := ⟨.hbm, 18, rfl⟩
abbrev main_while0b_v6 : Ref sig .tc := ⟨.hbm, 19, rfl⟩
abbrev main_while0b_c_4 : Ref sig .tc := ⟨.hbm, 20, rfl⟩
abbrev main_while0b_v7 : Ref sig .tc := ⟨.hbm, 21, rfl⟩

abbrev nD : Nat := 1
abbrev τ : Topo := Topo.v7x

variable {F : FTy → Type} [FloatOps F]

abbrev main_while0_count : Scf.Loop 32 := ⟨0#32, 4096#32, 1#32⟩
-- ==== Proof.Columns.lean ====
/-
# Products down a column

Arrays of 256 columns, read a column at a time over the extended reals: the tree product, the doubling scan, and a product
cut into blocks.
-/
module

public import Idealize.ShloMosaic.PureOps.Ideal
public import Idealize.ShloMosaic.Lib.IdealHost
public import Idealize.ShloMosaic.Lib.Pointwise
public import Mathlib.Algebra.BigOperators.Intervals

@[expose] public section

noncomputable section

namespace Cert.CumProd

open Idealize.ShloMosaic
open Finset

/-- An array of `n` rows and 256 columns. -/
abbrev Rows (n : ℕ) : Shape := ⟨2, ![n, 256]⟩

/-- The entry of row `i` and column `j`, and one past the last row. -/
def entry {n : ℕ} (v : (Rows n).Idx → EReal) (i : ℕ) (j : Fin 256) : EReal := if h : i < n then v (ix2 ⟨i, h⟩ j) else 1

theorem entry_of_lt {n : ℕ} (v : (Rows n).Idx → EReal) {i : ℕ} (h : i < n) (j : Fin 256) : entry v i j = v (ix2 ⟨i, h⟩ j) := dif_pos h

theorem entry_idx {n : ℕ} (v : (Rows n).Idx → EReal) (i : (Rows n).Idx) : v i = entry v (i 0).val (i 1) := by
  exact (congrArg v (eq_ix2 i)).trans (entry_of_lt v (i 0).isLt (i 1)).symm

/-- A slice of whole rows, read at a row. -/
theorem entry_slice {n N : ℕ} (o : ℕ) (v : FVec Ideal (Rows N) .f32) (h : (Rows N).Slices ![o, 0] (Rows n)) {i : ℕ} (hi : i < n)
    (hN : o + i < N) (j : Fin 256) : entry (extractStridedSlice (Rows n) ![o, 0] v h) i j = entry v (o + i) j := by
  rw [entry_of_lt _ hi, entry_of_lt _ hN]
  refine congrArg v (funext fun a => Fin.ext ?_)
  match a with
  | ⟨0, _⟩ => rfl
  | ⟨1, _⟩ => exact Nat.zero_add _

theorem entry_mul {n : ℕ} (v w : FVec Ideal (Rows n) .f32) {i : ℕ} (hi : i < n) (j : Fin 256) :
    entry (mulf v w) i j = entry v i j * entry w i j := by
  rw [entry_of_lt _ hi, entry_of_lt _ hi, entry_of_lt _ hi]; rfl

/-- Two arrays of rows one above the other, read at a row. -/
theorem entry_stack {n p q : ℕ} (v : FVec Ideal (Rows p) .f32) (w : FVec Ideal (Rows q) .f32)
    (h : Shape.Concatenates [Rows p, Rows q] (Rows n) 0) {i : ℕ} (hi : i < n) (hn : n = p + q) (j : Fin 256) :
    entry (concatenate (Rows n) 0 [⟨Rows p, v⟩, ⟨Rows q, w⟩] h) i j = if i < p then entry v i j else entry w (i - p) j := by
  rw [entry_of_lt _ hi, concatenate_pair_apply]
  by_cases hp : i < p
  · rw [if_pos hp, entry_of_lt _ hp]
    refine (dif_pos (show ((ix2 (⟨i, hi⟩ : Fin n) j) 0).val < (Rows p).size (Fin.cast h.rank_fst.symm 0) from hp)).trans ?_
    refine congrArg v (funext fun a => Fin.ext ?_)
    match a with
    | ⟨0, _⟩ => rfl
    | ⟨1, _⟩ => rfl
  · rw [if_neg hp, entry_of_lt _ (show i - p < q by omega)]
    refine (dif_neg (show ¬ ((ix2 (⟨i, hi⟩ : Fin n) j) 0).val < (Rows p).size (Fin.cast h.rank_fst.symm 0) from hp)).trans ?_
    refine congrArg w (funext fun a => Fin.ext ?_)
    match a with
    | ⟨0, _⟩ => rfl
    | ⟨1, _⟩ => rfl

/-- The constant array of ones. -/
theorem entry_one {n : ℕ} (i : ℕ) (j : Fin 256) :
    entry (broadcast (Rows n) (Scalar.ofBits .f32 0x3F800000#32 : Ideal .f32)) i j = 1 := by
  unfold entry
  split
  · exact Ideal.ofBits_one_f32
  · rfl

/-- The product of a column. -/
def colProd {n : ℕ} (v : (Rows n).Idx → EReal) (j : Fin 256) : EReal := ∏ i ∈ range n, entry v i j

theorem colProd_row (v : (Rows 1).Idx → EReal) (j : Fin 256) : colProd v j = v (ix2 0 j) := by
  unfold colProd; rw [prod_range_one]; exact entry_of_lt v Nat.one_pos j

/-- The upper half times the lower half has the product of the whole. -/
theorem colProd_half (n : ℕ) {N : ℕ} (hN : N = n + n) (v : FVec Ideal (Rows N) .f32) (h0 : (Rows N).Slices ![0, 0] (Rows n))
    (h1 : (Rows N).Slices ![n, 0] (Rows n)) (j : Fin 256) :
    colProd (mulf (extractStridedSlice (Rows n) ![0, 0] v h0) (extractStridedSlice (Rows n) ![n, 0] v h1)) j = colProd v j := by
  subst hN
  unfold colProd
  rw [prod_range_add, ← prod_mul_distrib]
  refine prod_congr rfl fun i hi => ?_
  have hi' := mem_range.mp hi
  rw [entry_mul _ _ hi', entry_slice 0 v h0 hi' (by omega), entry_slice n v h1 hi' (by omega), Nat.zero_add]

/-- Each entry of `v` is the product of the last `s` of the terms `f` up to its row. -/
def Window (f : ℕ → Fin 256 → EReal) (s : ℕ) {n : ℕ} (v : (Rows n).Idx → EReal) : Prop :=
  ∀ i < n, ∀ j, entry v i j = ∏ t ∈ Ico (i + 1 - s) (i + 1), f t j

theorem window_one {n : ℕ} (v : (Rows n).Idx → EReal) : Window (entry v) 1 v := fun i _ j => by
  rw [Nat.add_sub_cancel, prod_Ico_succ_top (Nat.le_refl i), Ico_self, prod_empty, one_mul]

/-- A doubling step: the array times itself moved down by `s` rows, ones above. -/
theorem window_double (s r : ℕ) {n : ℕ} (hn : n = s + r) {f : ℕ → Fin 256 → EReal} {v : FVec Ideal (Rows n) .f32} (hv : Window f s v)
    (h0 : (Rows n).Slices ![0, 0] (Rows r)) (hc : Shape.Concatenates [Rows s, Rows r] (Rows n) 0) :
    Window f (s + s) (mulf v (concatenate (Rows n) 0 [⟨Rows s, broadcast (Rows s) (Scalar.ofBits .f32 0x3F800000#32 : Ideal .f32)⟩,
      ⟨Rows r, extractStridedSlice (Rows r) ![0, 0] v h0⟩] hc)) := fun i hi j => by
  rw [entry_mul _ _ hi, entry_stack _ _ hc hi hn, hv i hi j]
  by_cases hs : i < s
  · rw [if_pos hs, entry_one, mul_one, Nat.sub_eq_zero_of_le (show i + 1 ≤ s from hs), Nat.sub_eq_zero_of_le (show i + 1 ≤ s + s by omega)]
  · rw [if_neg hs, entry_slice 0 v h0 (show i - s < r by omega) (by omega), Nat.zero_add, hv (i - s) (by omega) j, mul_comm,
      show i + 1 - (s + s) = i - s + 1 - s by omega, show i + 1 - s = i - s + 1 by omega]
    exact prod_Ico_consecutive (fun t => f t j) (by omega) (by omega)

/-- A window reaching back over every row is the whole product so far. -/
theorem window_full {f : ℕ → Fin 256 → EReal} {n : ℕ} {v : (Rows n).Idx → EReal} (hv : Window f n v) {i : ℕ} (hi : i < n) (j : Fin 256) :
    entry v i j = ∏ t ∈ range (i + 1), f t j := by
  rw [hv i hi j, Nat.sub_eq_zero_of_le hi, range_eq_Ico]

/-- The product of the first `c` blocks of `b` terms each. -/
theorem prod_blocks (f : ℕ → EReal) (b c : ℕ) : ∏ t ∈ range (b * c), f t = ∏ d ∈ range c, ∏ t ∈ range b, f (b * d + t) := by
  induction c with
  | zero => rw [Nat.mul_zero, prod_range_zero, prod_range_zero]
  | succ c ih => rw [Nat.mul_succ, prod_range_add, ih, prod_range_succ]

end Cert.CumProd

end
-- ==== Proof.Protocol.lean ====
/-
# The mesh protocol of the product-prefix kernel

Sixteen devices each hold one block of rows. Device `c` sends the product of its block to every later device, and before
it may write into a later device's landing rows that device must have said, on `c`'s barrier semaphore, that it has
entered the kernel. This module names the semaphores, says what each of them carries and when (one round of duties per
semaphore), and states what a device owes the others when it starts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of this kernel's semaphores: a duty is named by the distance (less one) between payer and owner. -/
abbrev UM : Type := URounds (GSem nD τ sig) (Fin 15)
/-- The pipeline's resources beside the mesh's. -/
abbrev UU : Type := UR sig nD τ × UM

local notation "𝕄" => MT nD τ sig Unit (Elt F) ℕ UU ℕ

/-- Where the pipeline's resources sit. -/
abbrev EP : Emb (UR sig nD τ) (MT nD τ sig Unit (Elt F) ℕ UU ℕ) := embL
/-- Where the mesh's resources sit. -/
abbrev EM : Emb UM (MT nD τ sig Unit (Elt F) ℕ UU ℕ) := embR

/-! ## Distances -/

set_option backward.proofsInPublic true in
/-- The device `j + 1` places after `c`, around the mesh. -/
def up (j : Fin 15) (c : Dev nD) : Dev nD := ⟨(c.val + j.val + 1) % 16, Nat.mod_lt _ (by decide)⟩
set_option backward.proofsInPublic true in
/-- The device `j + 1` places before `c`, around the mesh. -/
def dn (j : Fin 15) (c : Dev nD) : Dev nD := ⟨(c.val + 15 - j.val) % 16, Nat.mod_lt _ (by decide)⟩
/-- There is a device `j + 1` places before `c` in the line. -/
abbrev Lo (j : Fin 15) (c : Dev nD) : Prop := j.val < c.val
/-- There is a device `j + 1` places after `c` in the line. -/
abbrev Hi (j : Fin 15) (c : Dev nD) : Prop := c.val + j.val + 1 < 16

theorem up_dn (j : Fin 15) (c : Dev nD) : up j (dn j c) = c := by
  have := c.isLt; have := j.isLt; refine Fin.ext ?_; simp only [up, dn, nD] at *; omega
theorem dn_up (j : Fin 15) (c : Dev nD) : dn j (up j c) = c := by
  have := c.isLt; have := j.isLt; refine Fin.ext ?_; simp only [up, dn, nD] at *; omega
theorem hi_dn {j : Fin 15} {c : Dev nD} : Hi j (dn j c) ↔ Lo j c := by
  have := c.isLt; have := j.isLt; simp only [Hi, Lo, dn, nD] at *; omega
theorem lo_up {j : Fin 15} {c : Dev nD} : Lo j (up j c) ↔ Hi j c := by
  have := c.isLt; have := j.isLt; simp only [Hi, Lo, up, nD] at *; omega

/-- Going `j + 1` places on is one to one. -/
def turn (j : Fin 15) : Dev nD ≃ Dev nD := ⟨up j, dn j, dn_up j, up_dn j⟩

/-! ## Memrefs and semaphores -/

abbrev xM : Memref sig .tc .vmem S256x256 .bf16 := Memref.whole cc0_stg0_0
abbrev oM : Memref sig .tc .vmem S256x256 .f32 := Memref.whole cc0_stg1_0
abbrev sM : Memref sig .tc .vmem S1x256 .f32 := Memref.whole cc0_scratch0
abbrev lM : Memref sig .tc .vmem S15x256 .f32 := Memref.whole cc0_scratch1

theorem row_inb (j : Fin 15) : ∀ a, (![j.val, 0] : Fin 2 → Nat) a + S1x256.size a ≤ S15x256.size a := by
  intro a; have := j.isLt; fin_cases a
  · show j.val + 1 ≤ 15; omega
  · show 0 + 256 ≤ 256; omega
/-- Row `j` of the landing buffer. -/
abbrev rowM (j : Fin 15) : Memref sig .tc .vmem S1x256 .f32 :=
  lM.slice (Rect.unit (s := S15x256) ![j.val, 0] S1x256.size (row_inb j)) (fun _ => rfl)

/-- The barrier semaphore. -/
abbrev barS : Sem sig := (SemArray.scalar (sig.barrier 0 rfl) : Sems sig S_).sem
/-- The semaphore of the transfer over `j + 1` places, at its source; -/
def outS (j : Fin 15) : DmaSem sig := ⟨2 + j.val, by have := j.isLt; show 2 + j.val < 32; omega⟩
/-- and at its destination. -/
def innS (j : Fin 15) : DmaSem sig := ⟨17 + j.val, by have := j.isLt; show 17 + j.val < 32; omega⟩

/-- A device's semaphores: the barrier's, the fifteen sources', the fifteen destinations'. -/
abbrev Chan : Type := Unit ⊕ (Fin 15 ⊕ Fin 15)
abbrev gate : Chan := .inl ()
abbrev out (j : Fin 15) : Chan := .inr (.inl j)
abbrev inn (j : Fin 15) : Chan := .inr (.inr j)

/-- The semaphore of a channel, -/
def semOf : Chan → SemLoc sig
  | .inl _ => .reg barS
  | .inr (.inl j) => .dma (outS j)
  | .inr (.inr j) => .dma (innS j)
/-- and the channel of a semaphore: none, for the staging buffers' two. -/
def chanOf : SemLoc sig → Option Chan
  | .reg _ => some gate
  | .dma q => if h : 17 ≤ q.val then some (inn ⟨q.val - 17, by have : q.val < 32 := q.isLt; omega⟩)
      else if h' : 2 ≤ q.val then some (out ⟨q.val - 2, by omega⟩) else none

theorem chanOf_semOf (k : Chan) : chanOf (semOf k) = some k := by
  rcases k with _ | j | j
  · rfl
  · have hj := j.isLt
    simp only [semOf, chanOf, outS]
    rw [dif_neg (by omega), dif_pos (by omega)]
    exact congrArg (fun i => some (out i)) (Fin.ext (Nat.add_sub_cancel_left 2 j.val))
  · simp only [semOf, chanOf, innS]
    rw [dif_pos (by omega)]
    exact congrArg (fun i => some (inn i)) (Fin.ext (Nat.add_sub_cancel_left 17 j.val))

theorem semOf_inj : Function.Injective semOf := fun a b h => by
  have := congrArg chanOf h; rw [chanOf_semOf, chanOf_semOf] at this; exact Option.some.inj this

/-- The cell of channel `k` on device `c`. -/
abbrev cell (ck : Dev nD × Chan) : GSem nD τ sig := ((ck.1 : Thread nD τ), semOf ck.2)

theorem cell_inj : Function.Injective cell := by
  rintro ⟨c, k⟩ ⟨c', k'⟩ h
  have h1 : c = c' := congrArg (fun g : GSem nD τ sig => g.1.1) h
  have h2 : k = k' := semOf_inj (congrArg Prod.snd h)
  rw [h1, h2]

/-- What one row's transfer credits. -/
abbrev N : ℕ := (sM : Memref sig .tc .vmem S1x256 .f32).view.dmaCredit
theorem N_pos : 0 < N := View.dmaCredit_pos _ (by decide)

/-! ## What is carried -/

/-- The contents of a device's outgoing row, of its landing buffer. -/
abbrev SendBuf (F : FTy → Type) : Type := (cc0_scratch0 : Ref sig .tc).ty.Contents (Elt F)
abbrev LandBuf (F : FTy → Type) : Type := (cc0_scratch1 : Ref sig .tc).ty.Contents (Elt F)

/-- Column `k` of a single row. -/
def col (k : Fin 256) : (S1x256 : Shape).Idx := fun a => match a with
  | ⟨0, _⟩ => (0 : Fin 1)
  | ⟨1, _⟩ => k

/-- Device `c`'s landing buffer once all rows have come: row `j` is the outgoing row of the device `j + 1` places before. -/
def landed (P : Dev nD → SendBuf F) (c : Dev nD) : LandBuf F := fun i => P (dn (i 0) c) (col (i 1))

/-- Row `j` of device `c`'s landing buffer, owned, its contents those of `f` there. -/
def rowPts (c : Dev nD) (j : Fin 15) (f : LandBuf F) : sProp 𝕄 :=
  ((rowM j).view.loc (c : Thread nD τ)) ↦[(rowM j).view.set]{fullShare} f
/-- One of the fifteen shares of device `c`'s outgoing row. -/
def sharePts (P : Dev nD → SendBuf F) (c : Dev nD) (j : Fin 15) : sProp 𝕄 :=
  ((sM : Memref sig .tc .vmem S1x256 .f32).view.loc (c : Thread nD τ)) ↦[(sM : Memref sig .tc .vmem S1x256 .f32).view.set]{pieceOf fullShare 15 (by decide) j} P c

instance rowPts_storable (c : Dev nD) (j : Fin 15) (f : LandBuf F) : BI.Storable (upEmb : UEmb _ 𝕄) (rowPts (F := F) c j f) := by
  unfold rowPts; infer_instance
instance sharePts_storable (P : Dev nD → SendBuf F) (c : Dev nD) (j : Fin 15) : BI.Storable (upEmb : UEmb _ 𝕄) (sharePts (F := F) P c j) := by
  unfold sharePts; infer_instance

/-! ## The schedule -/

/-- The duties of a channel of device `c`. The barrier has one for each later device; a transfer's two ends one, if the
    transfer takes place. -/
def dutiesOf (c : Dev nD) : Chan → Finset (Fin 15)
  | .inl _ => Finset.univ.filter (Hi · c)
  | .inr (.inl j) => if Hi j c then {0} else ∅
  | .inr (.inr j) => if Lo j c then {0} else ∅
/-- The units of one duty. -/
def unitsOf : Chan → ℕ
  | .inl _ => 1
  | .inr _ => N
/-- What a duty hands the channel's owner: at the barrier, the landing row of the later device that is meant for `c`; at a
    transfer's source, the share of the outgoing row; at its destination, the landed row. -/
def payOf (P : Dev nD → SendBuf F) (c : Dev nD) (d : Fin 15) : Chan → sProp 𝕄
  | .inl _ => iprop(∃ f, rowPts (up d c) d f)
  | .inr (.inl j) => sharePts P c j
  | .inr (.inr j) => rowPts c j (landed P c)

theorem payOf_gate (P : Dev nD → SendBuf F) (c : Dev nD) (d : Fin 15) : payOf P c d gate = iprop(∃ f, rowPts (up d c) d f) := rfl
theorem payOf_out (P : Dev nD → SendBuf F) (c : Dev nD) (d j : Fin 15) : payOf P c d (out j) = sharePts P c j := rfl
theorem payOf_inn (P : Dev nD → SendBuf F) (c : Dev nD) (d j : Fin 15) : payOf P c d (inn j) = rowPts c j (landed P c) := rfl

theorem unitsOf_pos (k : Chan) : 0 < unitsOf k := by
  rcases k with _ | j
  · exact Nat.one_pos
  · exact N_pos

/-- One round of duties at each channel. -/
def rd (P : Dev nD → SendBuf F) : Rounds.Schedule (GSem nD τ sig) (Fin 15) 𝕄 where
  duties g r := if r = 0 ∧ g.1.2 = .tc then (chanOf g.2).elim ∅ (dutiesOf g.1.1) else ∅
  unitless _ := False
  amount g _ _ := (chanOf g.2).elim 1 unitsOf
  payload g _ d := (chanOf g.2).elim iprop(emp) (payOf P g.1.1 d)
  amount_pos g _ _ _ := by
    cases chanOf g.2 with
    | none => exact Nat.one_pos
    | some k => exact unitsOf_pos k

instance payOf_storable (P : Dev nD → SendBuf F) (c : Dev nD) (d : Fin 15) (k : Chan) : BI.Storable (upEmb : UEmb _ 𝕄) (payOf P c d k) := by
  rcases k with _ | j | j <;> unfold payOf <;> infer_instance

instance rd_payload_storable (P : Dev nD → SendBuf F) (g : GSem nD τ sig) (r : ℕ) (d : Fin 15) :
    BI.Storable (upEmb : UEmb _ 𝕄) ((rd P).payload g r d) := by
  show BI.Storable upEmb ((chanOf g.2).elim iprop(emp) (payOf P g.1.1 d))
  cases chanOf g.2 with
  | none => exact (inferInstance : BI.Storable upEmb (iprop(emp) : sProp 𝕄))
  | some k => exact payOf_storable P g.1.1 d k

section Tables
variable (P : Dev nD → SendBuf F) (c : Dev nD) (k : Chan)

theorem duties_eq : (rd P).duties (cell (c, k)) 0 = dutiesOf c k := by
  dsimp only [rd]; rw [if_pos ⟨rfl, rfl⟩, chanOf_semOf]; rfl
theorem duties_later : ∀ r, 1 ≤ r → (rd P).duties (cell (c, k)) r = ∅ :=
  fun r hr => by dsimp only [rd]; exact if_neg fun h => by omega
theorem amount_eq (d : Fin 15) : (rd P).amount (cell (c, k)) 0 d = unitsOf k := by
  dsimp only [rd]; rw [chanOf_semOf]; rfl
theorem payload_eq (d : Fin 15) : (rd P).payload (cell (c, k)) 0 d = payOf P c d k := by
  dsimp only [rd]; rw [chanOf_semOf]; rfl
theorem expect_eq : (rd P).expect (cell (c, k)) 0 = (dutiesOf c k).card * unitsOf k := by
  unfold Rounds.Schedule.expect Rounds.Schedule.amountOf
  rw [duties_eq, Finset.sum_congr rfl fun d _ => amount_eq P c k d, Finset.sum_const, smul_eq_mul]

end Tables

/-! ## What a device owes -/

/-- A family of fifteen, from its `n`-th member on. -/
def rest {M : Type} [AddCommMonoid M] (D : Fin 15 → M) (n : ℕ) : M := ∑ i : Fin 15, if n ≤ i.val then D i else 0

/-- The next member taken off the rest. -/
theorem rest_step {M : Type} [AddCommMonoid M] (D : Fin 15 → M) (j : Fin 15) : rest D j.val = rest D (j.val + 1) + D j := by
  unfold rest
  rw [← Finset.add_sum_erase _ _ (Finset.mem_univ j), ← Finset.add_sum_erase Finset.univ _ (Finset.mem_univ j), if_pos le_rfl,
    if_neg (by omega), zero_add, add_comm]
  congr 1
  refine Finset.sum_congr rfl fun i hi => ?_
  have hne : i.val ≠ j.val := fun h => (Finset.mem_erase.mp hi).1 (Fin.ext h)
  by_cases h : j.val ≤ i.val
  · rw [if_pos h, if_pos (by omega)]
  · rw [if_neg h, if_neg (by omega)]

theorem rest_end {M : Type} [AddCommMonoid M] (D : Fin 15 → M) : rest D 15 = 0 :=
  Finset.sum_eq_zero fun i _ => if_neg (by have := i.isLt; omega)

/-- The unit device `c` owes the barrier of the device `j + 1` places before it. -/
def sigDue (c : Dev nD) (j : Fin 15) : CellTallies nD τ sig Unit := if Lo j c then tallyAt (cell (dn j c, gate)) () 1 else 0
/-- The row's credit device `c` owes the device `j + 1` places after it. -/
def rowDue (c : Dev nD) (j : Fin 15) : CellTallies nD τ sig Unit := if Hi j c then tallyAt (cell (up j c, inn j)) () N else 0

/-- All that device `c` owes at launch. -/
def O₀ (c : Dev nD) : CellTallies nD τ sig Unit := rest (rowDue c) 0 + rest (sigDue c) 0

/-- Levels are given to the cells of the TensorCores: -/
def L (g : GSem nD τ sig) : Finset Unit := if g.1.2 = .tc then {()} else ∅
/-- the landing cells above the barriers, the barriers above the rest. -/
def lvOf : Option Chan → ℕ
  | some (.inl _) => 1
  | some (.inr (.inr _)) => 2
  | _ => 0
def lv (g : GSem nD τ sig) (_ : Unit) : ℕ := lvOf (chanOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Chan) : lv (cell (c, k)) () = lvOf (some k) := by unfold lv; rw [chanOf_semOf]

theorem rest_pos {D : Fin 15 → CellTallies nD τ sig Unit} {n : ℕ} {g : GSem nD τ sig} {u : Unit} (h : 0 < rest D n g u) : ∃ i, 0 < D i g u := by
  by_contra hn
  refine absurd h ?_
  unfold rest
  rw [Finset.sum_apply, Finsupp.finsetSum_apply, Finset.sum_eq_zero fun i _ => ?_]
  · exact lt_irrefl _
  · by_cases hi : n ≤ i.val
    · rw [if_pos hi]; exact Nat.eq_zero_of_not_pos fun h' => hn ⟨i, h'⟩
    · rw [if_neg hi]; rfl

theorem rowDue_pos {c : Dev nD} {j : Fin 15} {g : GSem nD τ sig} {u : Unit} (h : 0 < rowDue c j g u) : g = cell (up j c, inn j) := by
  unfold rowDue at h
  split at h
  · exact (Pipeline.tallyAt_pos h).1
  · exact absurd h (lt_irrefl _)
theorem sigDue_pos {c : Dev nD} {j : Fin 15} {g : GSem nD τ sig} {u : Unit} (h : 0 < sigDue c j g u) : g = cell (dn j c, gate) := by
  unfold sigDue at h
  split at h
  · exact (Pipeline.tallyAt_pos h).1
  · exact absurd h (lt_irrefl _)

/-- A device may wait at a semaphore below all it owes. -/
theorem mayWait_below (c : Dev nD) (sm : SemLoc sig) (O : CellTallies nD τ sig Unit)
    (h : ∀ g u, 0 < O g u → ∃ d k, g = cell (d, k) ∧ lvOf (chanOf sm) < lvOf (some k)) :
    (levAts L lv : sProp 𝕄) ⊢ MayWait (c : Thread nD τ) sm () O :=
  MayOwe.of_cut (L := L) (lev := lv) (lvOf (chanOf sm))
    (fun p hp => by rw [Finset.mem_singleton.mp hp, L_tc]; exact Finset.mem_singleton_self _)
    (fun g u hg => by obtain ⟨d, k, rfl, _⟩ := h g u hg; rw [L_tc]; exact Finset.mem_singleton_self _)
    (fun p hp => by rw [Finset.mem_singleton.mp hp]; exact le_rfl)
    (fun g u hg => by obtain ⟨d, k, rfl, hk⟩ := h g u hg; rw [lv_cell]; exact hk)

/-- At the barrier a device owes only rows. -/
theorem mayWait_gate (c : Dev nD) : (levAts L lv : sProp 𝕄) ⊢ MayWait (c : Thread nD τ) (.reg barS) () (rest (rowDue c) 0) :=
  mayWait_below c _ _ fun g u hg => by
    obtain ⟨i, hi⟩ := rest_pos hg
    exact ⟨_, _, rowDue_pos hi, Nat.one_lt_two⟩

/-- At the staging semaphores a device owes all or nothing. -/
theorem mayWait_stage (c : Dev nD) (sm : SemLoc sig) (hs : lvOf (chanOf sm) = 0) (O : CellTallies nD τ sig Unit) (hO : O = O₀ c ∨ O = 0) :
    (levAts L lv : sProp 𝕄) ⊢ MayWait (c : Thread nD τ) sm () O := by
  rcases hO with rfl | rfl
  · refine mayWait_below c _ _ fun g u hg => ?_
    rw [hs]
    unfold O₀ at hg
    rw [Pi.add_apply, Finsupp.add_apply] at hg
    rcases Nat.add_pos_iff_pos_or_pos.mp hg with h | h
    · obtain ⟨i, hi⟩ := rest_pos h
      exact ⟨_, _, rowDue_pos hi, Nat.two_pos⟩
    · obtain ⟨i, hi⟩ := rest_pos h
      exact ⟨_, _, sigDue_pos hi, Nat.one_pos⟩
  · rw [MayWait_zero]; iintro -; iempintro

end Cert.CumProd

end
-- ==== Proof.Steps.lean ====
/-
# The steps of the mesh protocol

The kernel's body runs five loops over the fifteen distances, printed unrolled and each step guarded by whether the other
device exists: signal, wait at the barrier, send, wait for a landed row, wait for a sent row. Each kind of step is proved
once here, at a distance `j`, as a move of one assertion from "`j` steps done" to "`j + 1` steps done".
-/
module

public import proofs.«01_k».proof.Proof.Protocol

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What every step may read: the channels' invariants under the names `K`, that each channel is at its round, the levels. -/
def records (K : Dev nD × Chan → ℕ) (P : Dev nD → SendBuf F) : sProp 𝕄 :=
  iprop((bigSep Finset.univ fun ck : Dev nD × Chan => cellInv EM (rd P) (K ck) (cell ck))
    ∗ (bigSep Finset.univ fun ck : Dev nD × Chan => reached EM (cell ck) 0) ∗ levAts L lv)

instance records_persistent (K : Dev nD × Chan → ℕ) (P : Dev nD → SendBuf F) : BI.Persistent (records K P) := by unfold records; infer_instance

theorem records_inv (K : Dev nD × Chan → ℕ) (P : Dev nD → SendBuf F) (ck : Dev nD × Chan) :
    records K P ⊢ cellInv EM (rd P) (K ck) (cell ck) := by
  unfold records
  iintro ⟨H, -⟩
  iapply (show (bigSep Finset.univ fun ck : Dev nD × Chan => (cellInv EM (rd P) (K ck) (cell ck) : sProp 𝕄)) ⊢ cellInv EM (rd P) (K ck) (cell ck)
    from bigSep_elim (Finset.mem_univ ck))
  iexact H
theorem records_reached (K : Dev nD × Chan → ℕ) (P : Dev nD → SendBuf F) (ck : Dev nD × Chan) :
    records K P ⊢ reached EM (cell ck) 0 := by
  unfold records
  iintro ⟨-, H, -⟩
  iapply (show (bigSep Finset.univ fun ck : Dev nD × Chan => (reached EM (cell ck) 0 : sProp 𝕄)) ⊢ reached EM (cell ck) 0
    from bigSep_elim (Finset.mem_univ ck))
  iexact H
theorem records_lev (K : Dev nD × Chan → ℕ) (P : Dev nD → SendBuf F) : records K P ⊢ (levAts L lv : sProp 𝕄) := by
  unfold records; iintro ⟨-, -, H⟩; iexact H

/-- The weakest precondition of a piece of the body on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has recorded. -/
def owesAny (c : Dev nD) (O : CellTallies nD τ sig Unit) : sProp 𝕄 := iprop(∃ W, owes (c : Thread nD τ) O W)

/-- The first `n` of fifteen are done (`B`), the others not yet (`A`). -/
def run (A B : Fin 15 → sProp 𝕄) (n : ℕ) : sProp 𝕄 := bigSep Finset.univ fun j => if j.val < n then B j else A j

theorem run_step (A B : Fin 15 → sProp 𝕄) (j : Fin 15) : run A B j.val ⊢ iprop(A j ∗ (B j -∗ run A B (j.val + 1))) := by
  unfold run
  rw [bigSep_univ_at _ j, bigSep_univ_at (fun i : Fin 15 => if i.val < j.val + 1 then B i else A i) j, if_neg (lt_irrefl _), if_pos (Nat.lt_succ_self _)]
  iintro ⟨HA, HR⟩
  isplitl [HA]; · iexact HA
  iintro HB
  isplitl [HB]; · iexact HB
  rw [show (bigSep (Finset.univ.erase j) fun i : Fin 15 => if i.val < j.val + 1 then B i else A i)
      = bigSep (Finset.univ.erase j) fun i : Fin 15 => if i.val < j.val then B i else A i from bigSep_congr fun i hi => by
    have hne : i.val ≠ j.val := fun h => (Finset.mem_erase.mp hi).1 (Fin.ext h)
    by_cases h : i.val < j.val
    · rw [if_pos h, if_pos (by omega)]
    · rw [if_neg h, if_neg (by omega)]]
  iexact HR

theorem run_start (A B : Fin 15 → sProp 𝕄) : bigSep Finset.univ A ⊢ run A B 0 :=
  Entails.of_eq (bigSep_congr fun i _ => (if_neg (Nat.not_lt_zero _)).symm)
theorem run_end (A B : Fin 15 → sProp 𝕄) : run A B 15 ⊢ bigSep Finset.univ B :=
  Entails.of_eq (bigSep_congr fun i _ => if_pos i.isLt)

variable (K : Dev nD × Chan → ℕ) (P : Dev nD → SendBuf F) (c : Dev nD)

/-- A loop over the distances after `n` of its steps: what is owed, what the loop's steps change, the frame, the steps. -/
def phase (O : CellTallies nD τ sig Unit) (X R : sProp 𝕄) (A B : Fin 15 → sProp 𝕄) (n : ℕ) : sProp 𝕄 :=
  iprop(records K P ∗ owesAny c O ∗ X ∗ R ∗ run A B n)

/-- One step of a loop, from the step's own move. -/
theorem phase_step {O O' : CellTallies nD τ sig Unit} {X X' R : sProp 𝕄} {A B : Fin 15 → sProp 𝕄} (j : Fin 15) {α : Type}
    {p k : Prog (TpuEff nD τ sig (Elt F) Λ₀ .tc) α} {Kt : α → sProp 𝕄}
    (hT : iprop(records K P ∗ owesAny c O ∗ X ∗ A j) ⊢ iprop(((owesAny c O' ∗ X' ∗ B j) -∗ wpB c k Kt) -∗ wpB c p Kt))
    (hk : phase K P c O' X' R A B (j.val + 1) ⊢ wpB c k Kt) : phase K P c O X R A B j.val ⊢ wpB c p Kt := by
  unfold phase
  iintro ⟨#Hr, HO, HX, HR, Hrun⟩
  ihave H := (run_step A B j) $$ Hrun
  icases H with ⟨HA, HB⟩
  ihave Hw := hT $$ [HO HX HA]
  · isplitr; · iexact Hr
    isplitl [HO]; · iexact HO
    isplitl [HX] <;> iassumption
  iapply Hw
  iintro ⟨HO, HX, Hb⟩
  iapply hk
  unfold phase
  isplitr; · iexact Hr
  isplitl [HO]; · iexact HO
  isplitl [HX]; · iexact HX
  isplitl [HR]; · iexact HR
  iapply HB; iexact Hb

/-! ## The signals -/

/-- Row `j` of the device's landing buffer, at any contents. -/
def rowAny (j : Fin 15) : sProp 𝕄 := iprop(∃ f, rowPts c j f)
/-- Before signal `j`: the duty's token and the row to hand over; -/
def sigA (j : Fin 15) : sProp 𝕄 := iprop(dutyTok EM (cell (dn j c, gate)) 0 j ∗ rowAny (F := F) c j)
/-- after it: the row, if there is no device to signal. -/
def sigB (j : Fin 15) : sProp 𝕄 := if Lo j c then iprop(emp) else rowAny (F := F) c j

theorem sig_move (j : Fin 15) {p : Prop} [Decidable p] (hp : p ↔ Lo j c) {dv : p → Dev nD} (hdv : ∀ h, dv h = dn j c)
    {sem : Sem sig} (hsem : sem = barS) (D : CellTallies nD τ sig Unit) {α : Type} {k : Prog (TpuEff nD τ sig (Elt F) Λ₀ .tc) α} {Kt : α → sProp 𝕄} :
    iprop(records K P ∗ owesAny c (D + rest (sigDue c) j.val) ∗ emp ∗ sigA (F := F) c j)
      ⊢ iprop(((owesAny c (D + rest (sigDue c) (j.val + 1)) ∗ emp ∗ sigB (F := F) c j) -∗ wpB c k Kt)
        -∗ wpB c (if h : p then (do semSignalWord (dv h) sem 1#32; k) else k) Kt) := by
  subst hsem
  rw [rest_step (sigDue c) j]
  unfold sigA sigB owesAny sigDue
  by_cases h : p
  · rw [dif_pos h, hdv h, if_pos (hp.mp h), if_pos (hp.mp h)]
    simp only [semSignalWord, Prog.lift, Prog.bind_op, Prog.bind_ret]
    iintro ⟨#Hr, ⟨%W, HO⟩, -, Htok, Hrow⟩ Hk
    iapply (Rounds.wp_signal 𝒱₀ EM (rd P) (c : Thread nD τ) none (dst := (dn j c : Thread nD τ)) (κ := K (dn j c, gate))
        (d := j) (r := 0) (by rw [show ((dn j c : Thread nD τ), SemLoc.reg barS) = cell (dn j c, gate) from rfl, duties_eq];
                              exact Finset.mem_filter.mpr ⟨Finset.mem_univ _, hi_dn.mpr (hp.mp h)⟩)
        ((amount_eq P (dn j c) gate j).trans (by decide)) () (D + rest (sigDue c) (j.val + 1)) (add_assoc _ _ _).symm)
      $$ [HO Htok Hrow]
    · isplitr; · iapply (records_inv K P (dn j c, gate)); iexact Hr
      isplitl [HO]; · iexact HO
      isplitl [Htok]; · iexact Htok
      isplitl [Hrow]
      · rw [show ((dn j c : Thread nD τ), SemLoc.reg barS) = cell (dn j c, gate) from rfl, payload_eq]
        rw [payOf_gate, up_dn]; unfold rowAny; iexact Hrow
      iapply (records_reached K P (dn j c, gate)); iexact Hr
    iintro HO
    iapply Hk
    isplitl [HO]; · iexists W; iexact HO
    isplitr <;> iempintro
  · rw [dif_neg h, if_neg (fun h' => h (hp.mpr h')), if_neg (fun h' => h (hp.mpr h')), add_zero]
    iintro ⟨-, HO, -, -, Hrow⟩ Hk
    iapply Hk
    isplitl [HO]; · iexact HO
    isplitr; · iempintro
    iexact Hrow

/-- A loop's step when the step is a signal. -/
theorem sig_step (j : Fin 15) {n : ℕ} (hn : j.val = n) {p : Dev nD → Prop} {inst : ∀ c, Decidable (p c)} (hp : ∀ c, p c ↔ Lo j c) {dv : ∀ c, p c → Dev nD} (hdv : ∀ c h, dv c h = dn j c)
    {sem : Sem sig} (hsem : sem = barS) {D : CellTallies nD τ sig Unit} {R : sProp 𝕄} {α : Type} {k : Prog (TpuEff nD τ sig (Elt F) Λ₀ .tc) α} {Kt : α → sProp 𝕄}
    (hk : phase K P c (D + rest (sigDue c) (n + 1)) iprop(emp) R (sigA c) (sigB c) (n + 1) ⊢ wpB c k Kt) :
    phase K P c (D + rest (sigDue c) n) iprop(emp) R (sigA c) (sigB c) n
      ⊢ wpB c (if h : p c then (do semSignalWord (dv c h) sem 1#32; k) else k) Kt := by
  subst hn
  exact phase_step K P c j (sig_move K P c j (hp c) (hdv c) hsem D) hk

/-! ## The waits at the barrier -/

/-- How many of the first `n` distances lead to a later device. -/
def took (n : ℕ) : ℕ := ∑ i : Fin 15, if i.val < n ∧ Hi i c then 1 else 0

theorem took_step (j : Fin 15) : took c (j.val + 1) = took c j.val + (if Hi j c then 1 else 0) := by
  unfold took
  rw [← Finset.add_sum_erase _ _ (Finset.mem_univ j), ← Finset.add_sum_erase Finset.univ (fun i : Fin 15 => if i.val < j.val ∧ Hi i c then 1 else 0) (Finset.mem_univ j),
    if_neg (fun h : j.val < j.val ∧ Hi j c => lt_irrefl _ h.1), zero_add, add_comm]
  congr 1
  · refine Finset.sum_congr rfl fun i hi => ?_
    have hne : i.val ≠ j.val := fun h => (Finset.mem_erase.mp hi).1 (Fin.ext h)
    exact if_congr (by constructor <;> rintro ⟨h, h'⟩ <;> exact ⟨by omega, h'⟩) rfl rfl
  · exact if_congr ⟨fun h => h.2, fun h => ⟨Nat.lt_succ_self _, h⟩⟩ rfl rfl
theorem took_start (c : Dev nD) : took c 0 = 0 := Finset.sum_eq_zero fun i _ => if_neg fun h => Nat.not_lt_zero _ h.1
theorem took_end : took c 15 = (dutiesOf c gate).card := by
  show _ = (Finset.univ.filter (Hi · c)).card
  rw [Finset.card_filter]
  unfold took
  simp only [Fin.is_lt, true_and]

/-- The barrier after `n` of the waits: some of its duties taken with what they handed over, at least as many as waited for. -/
def gateSt (n : ℕ) : sProp 𝕄 :=
  iprop(∃ T : Finset (Fin 15), ⌜T ⊆ dutiesOf c gate ∧ took c n + (dutiesOf c gate \ T).card ≤ (dutiesOf c gate).card⌝
    ∗ atPos EM (cell (c, gate)) 0 T (took c n) ∗ bigSep T fun d => payOf P c d gate)
/-- Before wait `j`: the unit it waits for, if there is a device to give it. -/
def gateA (j : Fin 15) : sProp 𝕄 := if Hi j c then cred (tallyAt (cell (c, gate)) () 1) else iprop(emp)

theorem records_mayWait : records K P ⊢ MayWait (c : Thread nD τ) (.reg barS) () (rest (rowDue c) 0) := by
  unfold records
  iintro ⟨-, -, H⟩
  iapply (mayWait_gate (F := F) c)
  iexact H

theorem gate_move (j : Fin 15) {p : Prop} [Decidable p] (hp : p ↔ Hi j c) {sem : Sem sig} (hsem : sem = barS) {α : Type}
    {k : Prog (TpuEff nD τ sig (Elt F) Λ₀ .tc) α} {Kt : α → sProp 𝕄} :
    iprop(records K P ∗ owesAny c (rest (rowDue c) 0) ∗ gateSt P c j.val ∗ gateA (F := F) c j)
      ⊢ iprop(((owesAny c (rest (rowDue c) 0) ∗ gateSt P c (j.val + 1) ∗ emp) -∗ wpB c k Kt)
        -∗ wpB c (if h : p then (do semWaitWord sem 1#32; k) else k) Kt) := by
  subst hsem
  unfold gateSt gateA owesAny
  rw [took_step c j]
  by_cases h : p
  · rw [dif_pos h, if_pos (hp.mp h), if_pos (hp.mp h)]
    simp only [semWaitWord, Prog.lift, Prog.bind_op, Prog.bind_ret]
    iintro ⟨#Hr, ⟨%W, HO⟩, ⟨%T, %hT, Hat, Hpay⟩, Hcr⟩ Hk
    iapply (Rounds.wp_wait 𝒱₀ EM (rd P) (c : Thread nD τ) none (κ := K (c, gate))
        (wpE_semWait_eq 𝒱₀ (c : Thread nD τ) none Set.univ) (Set.mem_univ _) (cr := Finsupp.single () 1) (O := rest (rowDue c) 0) (W := W)
        {(SemLoc.reg barS, ())} (R := 0) (m := took c j.val) (T := T) (Util.total_single () 1) (image_single_subset _ () 1)) $$ [HO Hat Hcr]
    · isplitr; · iapply (records_inv K P (c, gate)); iexact Hr
      isplitl [Hcr]; · iexact Hcr
      isplitl [HO]; · iexact HO
      isplitr
      · iapply (show records K P ⊢ MayOwe (c : Thread nD τ) {(SemLoc.reg barS, ())} (rest (rowDue c) 0) from records_mayWait K P c)
        iexact Hr
      iexact Hat
    iintro %S ⟨%hS, HO, Hat, Hnew⟩
    rw [show ((c : Thread nD τ), SemLoc.reg barS) = cell (c, gate) from rfl, duties_eq, expect_eq] at hS
    iapply Hk
    isplitl [HO]; · iexists _; iexact HO
    isplitl [Hat Hpay Hnew]
    · iexists S
      isplitr
      · ipureintro
        refine ⟨hS.2.1, ?_⟩
        have := hS.2.2
        rwa [show unitsOf gate = 1 from rfl, Nat.mul_one] at this
      isplitl [Hat]; · iexact Hat
      iapply (show iprop((bigSep T fun d => payOf P c d gate) ∗ bigSep (S \ T) fun d => payOf P c d gate) ⊢ bigSep S fun d => payOf P c d gate
        from Entails.of_eq (bigSep_sdiff_split hS.1).symm)
      isplitl [Hpay]; · iexact Hpay
      rw [show (bigSep (S \ T) fun d => payOf P c d gate) = bigSep (S \ T) fun d => (rd P).payload (cell (c, gate)) 0 d from
        bigSep_congr fun d _ => (payload_eq P c gate d).symm]
      iexact Hnew
    iempintro
  · rw [dif_neg h, if_neg (fun h' => h (hp.mpr h')), if_neg (fun h' => h (hp.mpr h')), add_zero]
    iintro ⟨-, HO, Hst, -⟩ Hk
    iapply Hk
    isplitl [HO]; · iexact HO
    isplitl [Hst]; · iexact Hst
    iempintro

/-- A loop's step when the step is a wait at the barrier. -/
theorem gate_step (j : Fin 15) {n : ℕ} (hn : j.val = n) {p : Dev nD → Prop} {inst : ∀ c, Decidable (p c)} (hp : ∀ c, p c ↔ Hi j c)
    {sem : Sem sig} (hsem : sem = barS) {R : sProp 𝕄} {α : Type} {k : Prog (TpuEff nD τ sig (Elt F) Λ₀ .tc) α} {Kt : α → sProp 𝕄}
    (hk : phase K P c (rest (rowDue c) 0) (gateSt P c (n + 1)) R (gateA c) (fun _ => iprop(emp)) (n + 1) ⊢ wpB c k Kt) :
    phase K P c (rest (rowDue c) 0) (gateSt P c n) R (gateA c) (fun _ => iprop(emp)) n
      ⊢ wpB c (if h : p c then (do semWaitWord sem 1#32; k) else k) Kt := by
  subst hn
  exact phase_step K P c j (gate_move K P c j (hp c) hsem) hk

/-- Row `j` of the device `j + 1` places on, if there is one. -/
def peerRow (j : Fin 15) : sProp 𝕄 := if Hi j c then rowAny (F := F) (up j c) j else iprop(emp)

/-- After the last wait all the barrier's duties are taken: the device has the rows it writes, and its barrier at zero. -/
theorem gate_done : iprop(records K P ∗ gateSt P c 15) ⊢ iprop(|={Set.univ}=> (semVal (cell (c, gate)) 0 ∗ bigSep Finset.univ (peerRow (F := F) c))) := by
  unfold gateSt
  iintro ⟨#Hr, ⟨%T, %hT, Hat, Hpay⟩⟩
  obtain ⟨hsub, hcard⟩ := hT
  rw [took_end] at hcard ⊢
  have hz : dutiesOf c gate \ T = ∅ := Finset.card_eq_zero.mp (by omega)
  have hall : T = dutiesOf c gate := Finset.Subset.antisymm hsub (Finset.sdiff_eq_empty_iff_subset.mp hz)
  subst hall
  imod (Rounds.fupd_skip EM (rd P) (g := cell (c, gate)) (R := 0) (κ := K (c, gate)) (T := dutiesOf c gate) (m := (dutiesOf c gate).card)
      (by rw [duties_eq]) (by rw [expect_eq]; exact (Nat.mul_one _).symm) (Set.mem_univ _)) $$ [Hat] with ⟨Hat, -⟩
  · isplitr; · iapply (records_inv K P (c, gate)); iexact Hr
    iexact Hat
  imod (Rounds.cell_close EM (rd P) (Set.mem_univ (K (c, gate))) (fun h => h) (R := 0 + 1) (duties_later P c gate)) $$ [Hat] with Hz
  · isplitr; · iapply (records_inv K P (c, gate)); iexact Hr
    iexact Hat
  imodintro
  isplitl [Hz]; · iexact Hz
  rw [show (bigSep Finset.univ (peerRow (F := F) c)) = bigSep (dutiesOf c gate) fun d => payOf P c d gate from ?_]
  · iexact Hpay
  · unfold dutiesOf peerRow
    rw [bigSep_filter]
    rfl

/-! ## The transfers -/

/-- Before transfer `j`: the row to write, the share to read, the tokens of its two ends; -/
def sendA (j : Fin 15) : sProp 𝕄 :=
  iprop(peerRow (F := F) c j ∗ sharePts P c j ∗ dutyTok EM (cell (c, out j)) 0 0 ∗ dutyTok EM (cell (up j c, inn j)) 0 0)
/-- after it: the credit its source wait spends, or the share, if there was no transfer. -/
def sendB (j : Fin 15) : sProp 𝕄 := if Hi j c then cred (tallyAt (cell (c, out j)) () N) else sharePts P c j

omit [FloatOps F] in
theorem row_emb (j : Fin 15) (x : S1x256.Idx) : ((rowM j).view.emb x 0 : Fin 15) = j ∧ col ((rowM j).view.emb x 1) = x := by
  have h0 : ((rowM j).view.emb x 0).val = j.val + 1 * (x 0).val := rfl
  have h1 : ((rowM j).view.emb x 1).val = 0 + 1 * (x 1).val := rfl
  have hx : (x 0).val < 1 := (x 0).isLt
  refine ⟨Fin.ext (by omega), funext fun a => Fin.ext ?_⟩
  fin_cases a
  · show 0 = (x 0).val; omega
  · show ((rowM j).view.emb x 1).val = (x 1).val; omega

/-- What a transfer writes in its destination's row is the row the destination expects. -/
theorem row_landed (j : Fin 15) (fd : LandBuf F) : ∀ i ∈ (rowM j).view.set,
    (rowM j).view.write (Elt F) fd ((sM : Memref sig .tc .vmem S1x256 .f32).view.read (Elt F) (P c)) Finset.univ i = landed P (up j c) i := by
  intro i hi
  obtain ⟨x, -, rfl⟩ := Finset.mem_map.mp hi
  rw [View.write_emb_of_mem _ _ (Finset.mem_univ _), cast_eq]
  show P c x = landed P (up j c) ((rowM j).view.emb x)
  unfold landed
  rw [(row_emb j x).1, (row_emb j x).2, dn_up]

theorem row_credit (j : Fin 15) : (rowM j).view.amount (SemLoc.dma (innS j) : SemLoc sig) = N := rfl

theorem send_op (j : Fin 15) (hj : Hi j c) {d : Dev nD} (hd : d = up j c) {dst : Memref sig .tc .vmem S1x256 .f32} (hdst' : dst = rowM j)
    {sS sV : DmaSem sig} (hS : sS = outS j) (hV : sV = innS j) {hsc : (dst : Memref sig (Dev.tc d : Thread nD τ).2.kind .vmem S1x256 .f32).view.ref.isScScratch = false}
    {hsrc : (sM : Memref sig .tc .vmem S1x256 .f32).view.WordExact} {hdst : dst.view.WordExact}
    {hsem : DmaTarget.Typed .vmem (.dma sV) (.remote (Dev.tc d : Thread nD τ) dst (.dma sS) hsc)}
    {α : Type} {k : PUnit → Prog (TpuEff nD τ sig (Elt F) Λ₀ .tc) α} {Kt : α → sProp 𝕄} (D : CellTallies nD τ sig Unit) (fd : LandBuf F) (W : Waits sig Unit) :
    iprop(cellInv EM (rd P) (K (c, out j)) (cell (c, out j)) ∗ cellInv EM (rd P) (K (up j c, inn j)) (cell (up j c, inn j))
        ∗ sharePts P c j ∗ rowPts (up j c) j fd
        ∗ owes (c : Thread nD τ) (D + tallyAt (cell (up j c, inn j)) () N) W
        ∗ dutyTok EM (cell (c, out j)) 0 0 ∗ reached EM (cell (c, out j)) 0
        ∗ dutyTok EM (cell (up j c, inn j)) 0 0 ∗ reached EM (cell (up j c, inn j)) 0)
      ⊢ iprop(((cred (tallyAt (cell (c, out j)) () N) ∗ owes (c : Thread nD τ) D W) -∗ wpB c (k ⟨⟩) Kt)
          -∗ wpB c (.op (.enqueueDma sM (.remote (Dev.tc d : Thread nD τ) dst (.dma sS) hsc) (.dma sV) hsrc hdst hsem) k) Kt) := by
  subst hd hdst' hS hV
  unfold sharePts rowPts
  exact Rounds.wp_send_pointsTo 𝒱₀ EM (rd P) (c : Thread nD τ) none (κ₁ := K (c, out j)) (κ₂ := K (up j c, inn j)) (c' := (up j c : Thread nD τ)) (src := sM) (dst := rowM j)
    (sS := .dma (outS j)) (sem := .dma (innS j)) (fs := P c) (q := pieceOf fullShare 15 (by decide) j)
    (r₁ := 0) (r₂ := 0) (d₁ := 0) (d₂ := 0) (fd := fd)
    (by rw [show ((c : Thread nD τ), SemLoc.dma (outS j)) = cell (c, out j) from rfl, duties_eq]; show _ ∈ (if Hi j c then {0} else ∅ : Finset (Fin 15))
        rw [if_pos hj]; exact Finset.mem_singleton_self _)
    (by rw [show ((up j c : Thread nD τ), SemLoc.dma (innS j)) = cell (up j c, inn j) from rfl, duties_eq]; show _ ∈ (if Lo j (up j c) then {0} else ∅ : Finset (Fin 15))
        rw [if_pos (lo_up.mpr hj)]; exact Finset.mem_singleton_self _)
    () () N (row_credit j) (amount_eq P c (out j) 0) (amount_eq P (up j c) (inn j) 0) D rfl (W := W)
    (by rw [show ((c : Thread nD τ), SemLoc.dma (outS j)) = cell (c, out j) from rfl, payload_eq, payOf_out]; unfold sharePts; exact BI.Entails.refl _)
    (by rw [show ((up j c : Thread nD τ), SemLoc.dma (innS j)) = cell (up j c, inn j) from rfl, payload_eq, payOf_inn]; unfold rowPts
        exact Entails.of_eq (pointsTo_congr (row_landed P c j fd)))

theorem send_move (j : Fin 15) {p : Prop} [Decidable p] (hp : p ↔ Hi j c) {dv : p → Dev nD} (hdv : ∀ h, dv h = up j c)
    {dst : Memref sig .tc .vmem S1x256 .f32} (hdst' : dst = rowM j) {sS sV : DmaSem sig} (hS : sS = outS j) (hV : sV = innS j)
    {hsc : (dst : Memref sig .tc .vmem S1x256 .f32).view.ref.isScScratch = false}
    {hsrc : (sM : Memref sig .tc .vmem S1x256 .f32).view.WordExact} {hdst : dst.view.WordExact}
    {hsem : ∀ h, DmaTarget.Typed .vmem (.dma sV) (.remote (Dev.tc (dv h) : Thread nD τ) dst (.dma sS) hsc)} {α : Type}
    {k : Prog (TpuEff nD τ sig (Elt F) Λ₀ .tc) α} {Kt : α → sProp 𝕄} :
    iprop(records K P ∗ owesAny c (rest (rowDue c) j.val) ∗ emp ∗ sendA P c j)
      ⊢ iprop(((owesAny c (rest (rowDue c) (j.val + 1)) ∗ emp ∗ sendB P c j) -∗ wpB c k Kt)
        -∗ wpB c (if h : p then (do Prog.lift (.enqueueDma sM (.remote (Dev.tc (dv h) : Thread nD τ) dst (.dma sS) hsc) (.dma sV) hsrc hdst (hsem h)); k) else k) Kt) := by
  rw [rest_step (rowDue c) j]
  unfold sendA sendB owesAny rowDue peerRow
  by_cases h : p
  · rw [dif_pos h, if_pos (hp.mp h), if_pos (hp.mp h), if_pos (hp.mp h)]
    simp only [Prog.lift, Prog.bind_op, Prog.bind_ret]
    unfold rowAny
    iintro ⟨#Hr, ⟨%W, HO⟩, -, ⟨%fd, Hrow⟩, Hsh, Htok, Htok'⟩ Hk
    iapply (send_op K P c j (hp.mp h) (hdv h) hdst' hS hV (rest (rowDue c) (j.val + 1)) fd W) $$ [HO Hrow Hsh Htok Htok']
    · isplitr; · iapply (records_inv K P (c, out j)); iexact Hr
      isplitr; · iapply (records_inv K P (up j c, inn j)); iexact Hr
      isplitl [Hsh]; · iexact Hsh
      isplitl [Hrow]; · iexact Hrow
      isplitl [HO]; · iexact HO
      isplitl [Htok]; · iexact Htok
      isplitr; · iapply (records_reached K P (c, out j)); iexact Hr
      isplitl [Htok']; · iexact Htok'
      iapply (records_reached K P (up j c, inn j)); iexact Hr
    iintro ⟨Hcr, HO⟩
    iapply Hk
    isplitl [HO]; · iexists W; iexact HO
    isplitr; · iempintro
    iexact Hcr
  · rw [dif_neg h, if_neg (fun h' => h (hp.mpr h')), if_neg (fun h' => h (hp.mpr h')), if_neg (fun h' => h (hp.mpr h')), add_zero]
    iintro ⟨-, HO, -, -, Hsh, -⟩ Hk
    iapply Hk
    isplitl [HO]; · iexact HO
    isplitr; · iempintro
    iexact Hsh

/-- A loop's step when the step is a transfer. -/
theorem send_step (j : Fin 15) {n : ℕ} (hn : j.val = n) {p : Dev nD → Prop} {inst : ∀ c, Decidable (p c)} (hp : ∀ c, p c ↔ Hi j c) {dv : ∀ c, p c → Dev nD} (hdv : ∀ c h, dv c h = up j c)
    {dst : Memref sig .tc .vmem S1x256 .f32} (hdst' : dst = rowM j) {sS sV : DmaSem sig} (hS : sS = outS j) (hV : sV = innS j)
    {hsc : (dst : Memref sig .tc .vmem S1x256 .f32).view.ref.isScScratch = false}
    {hsrc : (sM : Memref sig .tc .vmem S1x256 .f32).view.WordExact} {hdst : dst.view.WordExact}
    {hsem : ∀ h, DmaTarget.Typed .vmem (.dma sV) (.remote (Dev.tc (dv c h) : Thread nD τ) dst (.dma sS) hsc)}
    {R : sProp 𝕄} {α : Type} {k : Prog (TpuEff nD τ sig (Elt F) Λ₀ .tc) α} {Kt : α → sProp 𝕄}
    (hk : phase K P c (rest (rowDue c) (n + 1)) iprop(emp) R (sendA P c) (sendB P c) (n + 1) ⊢ wpB c k Kt) :
    phase K P c (rest (rowDue c) n) iprop(emp) R (sendA P c) (sendB P c) n
      ⊢ wpB c (if h : p c then (do Prog.lift (.enqueueDma sM (.remote (Dev.tc (dv c h) : Thread nD τ) dst (.dma sS) hsc) (.dma sV) hsrc hdst (hsem h)); k) else k) Kt := by
  subst hn
  exact phase_step K P c j (send_move K P c j (hp c) (hdv c) hdst' hS hV) hk

/-! ## The waits for the transfers -/

/-- A wait for one transfer's end at channel `ck`: all of the channel's one duty, and its counter at zero again. -/
theorem end_wait (ck : Chan) (q : DmaSem sig) (hq : semOf ck = .dma q) (hu : unitsOf ck = N) (hd : dutiesOf c ck = {0})
    {sp sp' : Space} {src : Memref sig .tc sp S1x256 .f32} {dst : Memref sig .tc sp' S1x256 .f32} (hN : dst.view.dmaCredit = N)
    {hsrc : src.view.WordExact} {hdst : dst.view.WordExact} {α : Type} {k : Prog (TpuEff nD τ sig (Elt F) Λ₀ .tc) α} {Kt : α → sProp 𝕄} :
    iprop(records K P ∗ owesAny c 0 ∗ cred (tallyAt (cell (c, ck)) () N) ∗ atPos EM (cell (c, ck)) 0 ∅ 0)
      ⊢ iprop(((owesAny c 0 ∗ payOf P c 0 ck ∗ semVal (cell (c, ck)) 0) -∗ wpB c k Kt)
        -∗ wpB c (.op (.waitDma2 q src dst hsrc hdst) fun _ => k) Kt) := by
  unfold owesAny
  have hg : cell (c, ck) = ((c : Thread nD τ), SemLoc.dma q) := by rw [← hq]
  iintro ⟨#Hr, ⟨%W, HO⟩, Hcr, Hat⟩ Hk
  iapply (Rounds.wp_wait_rest_token 𝒱₀ EM (rd P) (c : Thread nD τ) none (κ := K (c, ck))
      (wpE_waitDma2_eq 𝒱₀ (c : Thread nD τ) none Set.univ) (Set.mem_univ _) () (O := 0) (W := W) (R := 0) (m := 0) (T := ∅)
      (by rw [Nat.zero_add, ← hg, expect_eq, hd, hu, Finset.card_singleton, Nat.one_mul])) $$ [HO Hat Hcr]
  · rw [← hg, hN]
    isplitr; · iapply (records_inv K P (c, ck)); iexact Hr
    isplitl [Hcr]; · iexact Hcr
    isplitl [HO]; · iexact HO
    isplitr; · rw [MayWait_zero]; iempintro
    iexact Hat
  rw [← hg, duties_eq, hd, Finset.sdiff_empty, bigSep_singleton, payload_eq]
  iintro ⟨HO, Hat, -, Hpay⟩
  imod (Rounds.cell_close EM (rd P) (Set.mem_univ (K (c, ck))) (fun h => h) (R := 0 + 1) (duties_later P c ck)) $$ [Hat] with Hz
  · isplitr; · iapply (records_inv K P (c, ck)); iexact Hr
    iexact Hat
  iapply Hk
  isplitl [HO]; · iexists _; iexact HO
  isplitl [Hpay] <;> iassumption

/-- A channel without duties gives its counter back at once. -/
theorem no_wait (ck : Chan) (hd : dutiesOf c ck = ∅) : iprop(records K P ∗ atPos EM (cell (c, ck)) 0 ∅ 0) ⊢ iprop(|={Set.univ}=> semVal (cell (c, ck)) 0) := by
  iintro ⟨#Hr, Hat⟩
  iapply (Rounds.cell_close EM (rd P) (Set.mem_univ (K (c, ck))) (fun h => h) (R := 0) (fun r _ => by
    rcases Nat.eq_zero_or_pos r with rfl | h
    · rw [duties_eq, hd]
    · exact duties_later P c ck r h))
  isplitr; · iapply (records_inv K P (c, ck)); iexact Hr
  iexact Hat

/-- A guarded wait for a transfer's end at channel `ck`: with the transfer (`p`) its credit becomes what it hands over,
    without it what was in the credit's place stays. -/
theorem end_move (ck : Chan) {q : DmaSem sig} (hq : semOf ck = .dma q) (hu : unitsOf ck = N) {p : Prop} [Decidable p] {T : Prop} [Decidable T] (hp : p ↔ T)
    (hd : dutiesOf c ck = if T then {0} else ∅) (E : sProp 𝕄) {sp sp' : Space}
    {src : Memref sig .tc sp S1x256 .f32} {dst : Memref sig .tc sp' S1x256 .f32} (hN : dst.view.dmaCredit = N)
    {hsrc : src.view.WordExact} {hdst : dst.view.WordExact} {α : Type} {k : Prog (TpuEff nD τ sig (Elt F) Λ₀ .tc) α} {Kt : α → sProp 𝕄} :
    iprop(records K P ∗ owesAny c 0 ∗ emp ∗ ((if T then cred (tallyAt (cell (c, ck)) () N) else E) ∗ atPos EM (cell (c, ck)) 0 ∅ 0))
      ⊢ iprop(((owesAny c 0 ∗ emp ∗ ((if T then payOf P c 0 ck else E) ∗ semVal (cell (c, ck)) 0)) -∗ wpB c k Kt)
        -∗ wpB c (if h : p then (do Prog.lift (.waitDma2 q src dst hsrc hdst); k) else k) Kt) := by
  by_cases h : p
  · rw [dif_pos h, if_pos (hp.mp h), if_pos (hp.mp h)]
    simp only [Prog.lift, Prog.bind_op, Prog.bind_ret]
    iintro ⟨#Hr, HO, -, Hcr, Hat⟩ Hk
    iapply (end_wait K P c ck q hq hu (hd.trans (if_pos (hp.mp h))) hN) $$ [HO Hcr Hat]
    · isplitr; · iexact Hr
      isplitl [HO]; · iexact HO
      isplitl [Hcr] <;> iassumption
    iintro ⟨HO, H⟩
    iapply Hk
    isplitl [HO]; · iexact HO
    isplitr; · iempintro
    iexact H
  · rw [dif_neg h, if_neg (fun h' => h (hp.mpr h')), if_neg (fun h' => h (hp.mpr h'))]
    iintro ⟨#Hr, HO, -, HE, Hat⟩ Hk
    imod (no_wait K P c ck (hd.trans (if_neg fun h' => h (hp.mpr h')))) $$ [Hat] with Hz
    · isplitr; · iexact Hr
      iexact Hat
    iapply Hk
    isplitl [HO]; · iexact HO
    isplitr; · iempintro
    isplitl [HE] <;> iassumption

/-- Before the wait for row `j`: its credit, or the row itself, if none comes; -/
def recvA (j : Fin 15) : sProp 𝕄 :=
  iprop((if Lo j c then cred (tallyAt (cell (c, inn j)) () N) else rowAny (F := F) c j) ∗ atPos EM (cell (c, inn j)) 0 ∅ 0)
/-- after it: the row. -/
def recvB (j : Fin 15) : sProp 𝕄 :=
  iprop((if Lo j c then rowPts c j (landed P c) else rowAny (F := F) c j) ∗ semVal (cell (c, inn j)) 0)
/-- Before the wait for the sent row `j`: its credit, or the share, if none was sent; -/
def backA (j : Fin 15) : sProp 𝕄 := iprop(sendB P c j ∗ atPos EM (cell (c, out j)) 0 ∅ 0)
/-- after it: the share. -/
def backB (j : Fin 15) : sProp 𝕄 := iprop((if Hi j c then sharePts P c j else sharePts P c j) ∗ semVal (cell (c, out j)) 0)

/-- A loop's step when the step is a wait for a row to have landed. -/
theorem recv_step (j : Fin 15) {n : ℕ} (hn : j.val = n) {p : Dev nD → Prop} {inst : ∀ c, Decidable (p c)} (hp : ∀ c, p c ↔ Lo j c) {q : DmaSem sig} (hq : innS j = q)
    {src dst : Memref sig .tc .vmem S1x256 .f32} {hsrc : src.view.WordExact} {hdst : dst.view.WordExact} (hN : dst.view.dmaCredit = N) {R : sProp 𝕄} {α : Type}
    {k : Prog (TpuEff nD τ sig (Elt F) Λ₀ .tc) α} {Kt : α → sProp 𝕄}
    (hk : phase K P c 0 iprop(emp) R (recvA c) (recvB P c) (n + 1) ⊢ wpB c k Kt) :
    phase K P c 0 iprop(emp) R (recvA c) (recvB P c) n
      ⊢ wpB c (if h : p c then (do Prog.lift (.waitDma2 q src dst hsrc hdst); k) else k) Kt := by
  subst hn
  exact phase_step K P c j (end_move K P c (inn j) (congrArg SemLoc.dma hq) rfl (hp c) rfl (rowAny c j) hN) hk

/-- A loop's step when the step is a wait for a row to have been sent. -/
theorem back_step (j : Fin 15) {n : ℕ} (hn : j.val = n) {p : Dev nD → Prop} {inst : ∀ c, Decidable (p c)} (hp : ∀ c, p c ↔ Hi j c) {q : DmaSem sig} (hq : outS j = q)
    {src dst : Memref sig .tc .vmem S1x256 .f32} {hsrc : src.view.WordExact} {hdst : dst.view.WordExact} (hN : dst.view.dmaCredit = N) {R : sProp 𝕄} {α : Type}
    {k : Prog (TpuEff nD τ sig (Elt F) Λ₀ .tc) α} {Kt : α → sProp 𝕄}
    (hk : phase K P c 0 iprop(emp) R (backA P c) (backB P c) (n + 1) ⊢ wpB c k Kt) :
    phase K P c 0 iprop(emp) R (backA P c) (backB P c) n
      ⊢ wpB c (if h : p c then (do Prog.lift (.waitDma2 q src dst hsrc hdst); k) else k) Kt := by
  subst hn
  exact phase_step K P c j (end_move K P c (out j) (congrArg SemLoc.dma hq) rfl (hp c) rfl (sharePts P c j) hN) hk

end Cert.CumProd

end
-- ==== Proof.Moves.lean ====
/-
# Moves of the body

How a bind, a load, a store and the change from one loop to the next act on the assertion a loop keeps.
-/
module

public import proofs.«01_k».proof.Proof.Steps

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

/-! ## Straight-line moves -/

/-- The word of a device's place in the line. -/
abbrev myW (c : Dev nD) : BitVec 32 := Scalar.remsi (Scalar.divsi (Dev.word c) 1#32) 16#32

theorem bind_step {A : sProp 𝕄} {α β : Type} {p : Prog (TpuEff nD τ sig (Elt F) Λ₀ .tc) α} {k : α → Prog (TpuEff nD τ sig (Elt F) Λ₀ .tc) β} {Kt : β → sProp 𝕄}
    (h : A ⊢ wpB c p (fun a => wpB c (k a) Kt)) : A ⊢ wpB c (p >>= k) Kt := by
  show A ⊢ wp frame (wpE (defs₀ (F := F)) 𝒱₀ (c : Thread nD τ) none) Set.univ (p >>= k) Kt
  rw [wp_bind]
  exact h

theorem device_step {A : sProp 𝕄} {α : Type} {k : Dev nD → Prog (TpuEff nD τ sig (Elt F) Λ₀ .tc) α} {Kt : α → sProp 𝕄} (h : A ⊢ wpB c (k c) Kt) :
    A ⊢ wpB c (Prog.lift .deviceId >>= k) Kt := by
  simp only [Prog.lift, Prog.bind_op, Prog.bind_ret, wp_deviceId]
  exact h

theorem ret_step {A : sProp 𝕄} {α : Type} {a : α} {Kt : α → sProp 𝕄} (h : A ⊢ Kt a) : A ⊢ wpB c (pure a) Kt := by
  show A ⊢ wp frame (wpE (defs₀ (F := F)) 𝒱₀ (c : Thread nD τ) none) Set.univ (Prog.ret a) Kt
  rw [wp_ret]
  exact h.trans fupd_intro

theorem phase_frame {O : CellTallies nD τ sig Unit} {X Q R : sProp 𝕄} {A B : Fin 15 → sProp 𝕄} {n : ℕ} :
    phase K P c O X iprop(Q ∗ R) A B n ⊢ iprop(Q ∗ phase K P c O X R A B n) := by
  unfold phase
  iintro ⟨#Hr, HO, HX, ⟨HQ, HR⟩, Hrun⟩
  isplitl [HQ]; · iexact HQ
  isplitr; · iexact Hr
  isplitl [HO]; · iexact HO
  isplitl [HX]; · iexact HX
  isplitl [HR] <;> iassumption
theorem phase_unframe {O : CellTallies nD τ sig Unit} {X Q R : sProp 𝕄} {A B : Fin 15 → sProp 𝕄} {n : ℕ} :
    iprop(Q ∗ phase K P c O X R A B n) ⊢ phase K P c O X iprop(Q ∗ R) A B n := by
  unfold phase
  iintro ⟨HQ, #Hr, HO, HX, HR, Hrun⟩
  isplitr; · iexact Hr
  isplitl [HO]; · iexact HO
  isplitl [HX]; · iexact HX
  isplitl [HQ HR]; · isplitl [HQ] <;> iassumption
  iexact Hrun

/-- The frame of a loop may be rearranged. -/
theorem phase_rearrange {O : CellTallies nD τ sig Unit} {X R R' : sProp 𝕄} {A B : Fin 15 → sProp 𝕄} {n : ℕ} {α : Type}
    {p : Prog (TpuEff nD τ sig (Elt F) Λ₀ .tc) α} {Kt : α → sProp 𝕄} (h : R ⊢ R') (hk : phase K P c O X R' A B n ⊢ wpB c p Kt) :
    phase K P c O X R A B n ⊢ wpB c p Kt := by
  refine BIBase.Entails.trans ?_ hk
  unfold phase
  iintro ⟨#Hr, HO, HX, HR, Hrun⟩
  isplitr; · iexact Hr
  isplitl [HO]; · iexact HO
  isplitl [HX]; · iexact HX
  isplitl [HR]; · iapply h; iexact HR
  iexact Hrun

/-- A load from a buffer owned whole, inside a loop's frame. -/
theorem load_step {O : CellTallies nD τ sig Unit} {X R : sProp 𝕄} {A B : Fin 15 → sProp 𝕄} {n : ℕ} {s : Shape} {e : EltTy} {m : Memref sig .tc .vmem s e} {r : LoadRect s}
    {f : Buf (Elt F) (m.view.loc (c : Thread nD τ))} {v : r.shape.Idx → Elt F e} (hv : m.view.readAt (Elt F) r f = v)
    {hl : m.view.LoadsAt r} {α : Type} {k : (r.shape.Idx → Elt F e) → Prog (TpuEff nD τ sig (Elt F) Λ₀ .tc) α} {Kt : α → sProp 𝕄}
    (hk : phase K P c O X iprop((m.view.loc (c : Thread nD τ) ↦{fullShare} f) ∗ R) A B n ⊢ wpB c (k v) Kt) :
    phase K P c O X iprop((m.view.loc (c : Thread nD τ) ↦{fullShare} f) ∗ R) A B n ⊢ wpB c (Prog.lift (.load m r hl) >>= k) Kt := by
  subst hv
  refine (phase_frame K P c).trans ?_
  simp only [Prog.lift, Prog.bind_op, Prog.bind_ret]
  iintro ⟨Hb, Hph⟩
  iapply (wp_load 𝒱₀ (c : Thread nD τ) none Set.univ (m := m) (Finset.subset_univ _)) $$ Hb
  iintro Hb
  iapply hk
  iapply (phase_unframe K P c)
  isplitl [Hb] <;> iassumption

/-- A store to a buffer owned whole, inside a loop's frame. -/
theorem store_step {O : CellTallies nD τ sig Unit} {X R : sProp 𝕄} {A B : Fin 15 → sProp 𝕄} {n : ℕ} {s : Shape} {e : EltTy} {m : Memref sig .tc .vmem s e} {r : Rect s}
    {f g : Buf (Elt F) (m.view.loc (c : Thread nD τ))} {w : r.shape.Idx → Elt F e} (hg : (m.access r).write (Elt F) f w Finset.univ = g)
    {hx : (m.access r).Stores Finset.univ} {hm : (Finset.univ : Finset r.shape.Idx) = Finset.univ ∨ ∀ a, r.stride a = 1} {α : Type}
    {k : PUnit → Prog (TpuEff nD τ sig (Elt F) Λ₀ .tc) α} {Kt : α → sProp 𝕄}
    (hk : phase K P c O X iprop((m.view.loc (c : Thread nD τ) ↦{fullShare} g) ∗ R) A B n ⊢ wpB c (k ⟨⟩) Kt) :
    phase K P c O X iprop((m.view.loc (c : Thread nD τ) ↦{fullShare} f) ∗ R) A B n ⊢ wpB c (Prog.lift (.store m r w Finset.univ hx hm) >>= k) Kt := by
  subst hg
  refine (phase_frame K P c).trans ?_
  simp only [Prog.lift, Prog.bind_op, Prog.bind_ret]
  iintro ⟨Hb, Hph⟩
  iapply (wp_store 𝒱₀ (c : Thread nD τ) none Set.univ (m := m) (r := r) (Mk := Finset.univ) (Finset.subset_univ _)) $$ Hb
  iintro Hb
  iapply hk
  iapply (phase_unframe K P c)
  isplitl [Hb] <;> iassumption

/-- From the end of one loop to the start of the next. -/
theorem phase_next {O O' : CellTallies nD τ sig Unit} {X X' R : sProp 𝕄} {A B A' B' : Fin 15 → sProp 𝕄} {Y : Type} {good : Y → Prop} {R' : Y → sProp 𝕄} {α : Type}
    {p : Prog (TpuEff nD τ sig (Elt F) Λ₀ .tc) α} {Kt : α → sProp 𝕄} (hO : O = O')
    (h : iprop(records K P ∗ X ∗ R ∗ bigSep Finset.univ B) ⊢ iprop(|={Set.univ}=> (∃ y, ⌜good y⌝ ∗ X' ∗ R' y ∗ bigSep Finset.univ A')))
    (hk : ∀ y, good y → phase K P c O' X' (R' y) A' B' 0 ⊢ wpB c p Kt) : phase K P c O X R A B 15 ⊢ wpB c p Kt := by
  subst hO
  unfold phase
  iintro ⟨#Hr, HO, HX, HR, Hrun⟩
  ihave HB := (run_end A B) $$ Hrun
  imod h $$ [HX HR HB] with ⟨%y, %hy, HX, HR, HA⟩
  · isplitr; · iexact Hr
    isplitl [HX]; · iexact HX
    isplitl [HR] <;> iassumption
  iapply (hk y hy)
  unfold phase
  isplitr; · iexact Hr
  isplitl [HO]; · iexact HO
  isplitl [HX]; · iexact HX
  isplitl [HR]; · iexact HR
  iapply (run_start A' B'); iexact HA

/-- Transfer `j`, as the printed body writes it. -/
theorem send_op_eq (j : Fin 15) {d : Dev nD} (hd : d = up j c) {dst : Memref sig .tc .vmem S1x256 .f32} (hdst' : dst = rowM j) {sS sV : DmaSem sig} (hS : sS = outS j) (hV : sV = innS j)
    {hsc : (dst : Memref sig .tc .vmem S1x256 .f32).view.ref.isScScratch = false} {hsrc : (sM : Memref sig .tc .vmem S1x256 .f32).view.WordExact} {hdst : dst.view.WordExact}
    {hsem : DmaTarget.Typed .vmem (.dma sV) (.remote (Dev.tc d : Thread nD τ) dst (.dma sS) hsc)} :
    (Prog.lift (.enqueueDma sM (.remote (Dev.tc d : Thread nD τ) dst (.dma sS) hsc) (.dma sV) hsrc hdst hsem) : Prog (TpuEff nD τ sig (Elt F) Λ₀ .tc) PUnit)
      = Prog.lift (.enqueueDma sM (.remote (Dev.tc (up j c) : Thread nD τ) (rowM j) (.dma (outS j)) rfl) (.dma (innS j)) (Memref.isWhole_whole _).wordExact (View.wordExact_bits rfl) ⟨⟨rfl, Or.inl rfl⟩, trivial⟩) := by
  subst hd hdst' hS hV; rfl

/-- A loop's step when the step is a transfer, the transfer under any name. -/
theorem transfer_step (j : Fin 15) {n : ℕ} (hn : j.val = n) {p : Dev nD → Prop} {inst : ∀ c, Decidable (p c)} (hp : ∀ c, p c ↔ Hi j c)
    {op : p c → Prog (TpuEff nD τ sig (Elt F) Λ₀ .tc) PUnit} {R : sProp 𝕄} {α : Type} {k : Prog (TpuEff nD τ sig (Elt F) Λ₀ .tc) α} {Kt : α → sProp 𝕄}
    (hk : phase K P c (rest (rowDue c) (n + 1)) iprop(emp) R (sendA P c) (sendB P c) (n + 1) ⊢ wpB c k Kt)
    (hop : ∀ h, op h = Prog.lift (.enqueueDma sM (.remote (Dev.tc (up j c) : Thread nD τ) (rowM j) (.dma (outS j)) rfl) (.dma (innS j)) (Memref.isWhole_whole _).wordExact (View.wordExact_bits rfl) ⟨⟨rfl, Or.inl rfl⟩, trivial⟩)) :
    phase K P c (rest (rowDue c) n) iprop(emp) R (sendA P c) (sendB P c) n
      ⊢ wpB c (if h : p c then (do op h; k) else k) Kt := by
  simp only [hop]
  exact send_step K P c j hn hp (dv := fun c _ => up j c) (fun _ _ => rfl) rfl rfl rfl (hsem := fun _ => ⟨⟨rfl, Or.inl rfl⟩, trivial⟩) hk

end Cert.CumProd

end
-- ==== Proof.Geometry.lean ====
/-
# The rows in pieces

The outgoing row as fifteen shares, the landing buffer as fifteen rows, and that rows not sent do not reach the result.
-/
module

public import proofs.«01_k».proof.Proof.Moves

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

/-! ## The two buffers of rows, in pieces -/

/-- The outgoing row owned whole is its fifteen shares. -/
theorem shares_eq : ((sM : Memref sig .tc .vmem S1x256 .f32).view.loc (c : Thread nD τ) ↦{fullShare} P c : sProp 𝕄) = bigSep Finset.univ (sharePts P c) := by
  have h : (((sM : Memref sig .tc .vmem S1x256 .f32).view.loc (c : Thread nD τ)) ↦[(sM : Memref sig .tc .vmem S1x256 .f32).view.set]{fullShare} P c : sProp 𝕄)
      = bigSep Finset.univ (sharePts P c) :=
    pointsTo_piecesOf (ℓ := (sM : Memref sig .tc .vmem S1x256 .f32).view.loc (c : Thread nD τ)) (sM : Memref sig .tc .vmem S1x256 .f32).view.set (P c) (o := 15) (by decide) fullShare
  rw [← h]
  exact congrArg (fun I => (((sM : Memref sig .tc .vmem S1x256 .f32).view.loc (c : Thread nD τ)) ↦[I]{fullShare} P c : sProp 𝕄)) (View.set_whole (cc0_scratch0 : Ref sig .tc)).symm

omit [FloatOps F] in
theorem mem_row (j : Fin 15) (i : S15x256.Idx) : i ∈ (rowM j).view.set ↔ (i 0 : Fin 15) = j := by
  constructor
  · intro h
    obtain ⟨x, -, rfl⟩ := Finset.mem_map.mp h
    exact (row_emb j x).1
  · rintro rfl
    refine Finset.mem_map.mpr ⟨col (i 1), Finset.mem_univ _, ?_⟩
    refine funext fun a => ?_
    fin_cases a
    · exact (row_emb (i 0) (col (i 1))).1
    · have h := congrFun (row_emb (i 0) (col (i 1))).2 1
      exact h

omit [FloatOps F] in
theorem rows_disjoint (j j' : Fin 15) (h : j ≠ j') : Disjoint ((rowM j).view.set : Finset S15x256.Idx) ((rowM j').view.set : Finset S15x256.Idx) :=
  Finset.disjoint_left.mpr fun i hi hi' => h (((mem_row j i).mp hi).symm.trans ((mem_row j' i).mp hi'))

omit [FloatOps F] in
theorem rows_cover : (Finset.univ : Finset S15x256.Idx) = Finset.univ.biUnion fun j : Fin 15 => (rowM j).view.set :=
  (Finset.eq_univ_of_forall fun i => Finset.mem_biUnion.mpr ⟨i 0, Finset.mem_univ _, (mem_row (i 0) i).mpr rfl⟩).symm

/-- A row at some contents. -/
theorem row_any (j : Fin 15) (f : LandBuf F) : (rowPts c j f : sProp 𝕄) ⊢ rowAny (F := F) c j := by
  unfold rowAny
  iintro H; iexists f; iexact H

/-- A row at contents that are the right ones when the row is waited for. -/
theorem row_maybe (j : Fin 15) : (if Lo j c then rowPts c j (landed P c) else rowAny (F := F) c j : sProp 𝕄)
    ⊢ iprop(∃ y : {f : LandBuf F // Lo j c → f = landed P c}, rowPts c j y.1) := by
  by_cases h : Lo j c
  · rw [if_pos h]
    iintro H; iexists ⟨landed P c, fun _ => rfl⟩; iexact H
  · rw [if_neg h]; unfold rowAny
    iintro ⟨%f, H⟩; iexists ⟨f, fun h' => absurd h' h⟩; iexact H

/-- The landing buffer owned whole gives each of its rows. -/
theorem rows_split (f : LandBuf F) : ((lM : Memref sig .tc .vmem S15x256 .f32).view.loc (c : Thread nD τ) ↦{fullShare} f : sProp 𝕄)
    ⊢ bigSep Finset.univ (rowAny (F := F) c) := by
  have h : ((lM : Memref sig .tc .vmem S15x256 .f32).view.loc (c : Thread nD τ) ↦{fullShare} f : sProp 𝕄) = bigSep Finset.univ fun j => rowPts c j f := by
    unfold rowPts
    rw [← pointsTo_biUnion (ℓ := (lM : Memref sig .tc .vmem S15x256 .f32).view.loc (c : Thread nD τ)) Finset.univ (fun j => (rowM j).view.set) fun j _ j' _ h => rows_disjoint j j' h]
    exact congrArg (fun I => (((lM : Memref sig .tc .vmem S15x256 .f32).view.loc (c : Thread nD τ)) ↦[I]{fullShare} f : sProp 𝕄)) rows_cover
  rw [h]
  exact bigSep_mono fun j _ => row_any c j f

/-- A landing buffer whose rows below the device's place hold what was sent. -/
def Landed (v : LandBuf F) : Prop := ∀ i : S15x256.Idx, Lo (i 0) c → v i = landed P c i

/-- The rows at the end of the waits are the landing buffer owned whole, at such contents. -/
theorem rows_join : (bigSep Finset.univ fun j => if Lo j c then rowPts c j (landed P c) else rowAny (F := F) c j)
    ⊢ (iprop(∃ v, ⌜Landed P c v⌝ ∗ (lM : Memref sig .tc .vmem S15x256 .f32).view.loc (c : Thread nD τ) ↦{fullShare} v) : sProp 𝕄) := by
  have h1 : (bigSep Finset.univ fun j => if Lo j c then rowPts c j (landed P c) else rowAny (F := F) c j)
      ⊢ bigSep Finset.univ fun j : Fin 15 => (iprop(∃ y : {f : LandBuf F // Lo j c → f = landed P c}, rowPts c j y.1) : sProp 𝕄) :=
    bigSep_mono fun j _ => row_maybe P c j
  haveI : ∀ j : Fin 15, Nonempty {f : LandBuf F // Lo j c → f = landed P c} := fun j => ⟨⟨landed P c, fun _ => rfl⟩⟩
  refine h1.trans ((BI.bigSep_exists_pi Finset.univ fun j (y : {f : LandBuf F // Lo j c → f = landed P c}) => rowPts c j y.1).trans ?_)
  iintro ⟨%y, H⟩
  unfold rowPts
  ihave H' := (pointsTo_biUnion_join (ℓ := (lM : Memref sig .tc .vmem S15x256 .f32).view.loc (c : Thread nD τ)) Finset.univ (fun j => (rowM j).view.set) (fun j => (y j).1)
    (landed P c) fun j _ j' _ h => rows_disjoint j j' h) $$ H
  icases H' with ⟨%g, %hg, H⟩
  iexists g
  isplitr
  · ipureintro
    intro i hi
    rw [hg (i 0) (Finset.mem_univ _) i ((mem_row (i 0) i).mpr rfl), (y (i 0)).2 hi]
  rw [← rows_cover]
  iexact H

/-! ## Only the rows below the device's place count -/

theorem mask_iff : ∀ (j : Fin 15) (c : Dev nD), IntOp.cmpi .slt (BitVec.ofNat 32 j.val) (myW c) = 1#1 ↔ Lo j c := by decide +kernel

/-- The result does not read the rows at or above the device's place. -/
theorem result_landed (s : FVec F S256x256 .f32) (x : F .f32) {v : LandBuf F} (hv : Landed P c v) :
    k0_pay6 s v (k0_pay5 (myW c)) x = k0_pay6 s (landed P c) (k0_pay5 (myW c)) x := by
  have h : select (k0_pay5 (myW c)) v (broadcast S15x256 x) = select (k0_pay5 (myW c)) (landed P c) (broadcast S15x256 x) := by
    funext i
    have hm : k0_pay5 (myW c) i = IntOp.cmpi .slt (BitVec.ofNat 32 (i 0).val) (myW c) := by
      show IntOp.cmpi .slt (BitVec.ofNat 32 (0 * 15 + (i 0).val)) (myW c) = _
      rw [Nat.zero_mul, Nat.zero_add]
    show Scalar.select (k0_pay5 (myW c) i) (v i) x = Scalar.select (k0_pay5 (myW c) i) (landed P c i) x
    by_cases hl : Lo (i 0) c
    · rw [hv i hl]
    · have h0 : ¬ k0_pay5 (myW c) i = 1#1 := fun e => hl ((mask_iff (i 0) c).mp (hm.symm.trans e))
      exact (if_neg h0).trans (if_neg h0).symm
  unfold k0_pay6
  dsimp only
  rw [h]

end Cert.CumProd

end
-- ==== Proof.Signals.lean ====
/-
# The signals

The printed pieces of the body, each run through by the steps of its loops.
-/
module

public import proofs.«01_k».proof.Proof.Moves

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

/-- The word a wait or transfer over `k` places tests: whether the place `k` on is in the line. -/
abbrev waitW (k : BitVec 32) (c : Dev nD) : BitVec 1 := Scalar.cmpi .ne (Scalar.extui (Scalar.cmpi .slt (Scalar.addi (myW c) k) 16#32) : BitVec 32) 0#32
/-- The word a wait for the row from `k` places before tests. -/
abbrev comeW (k : BitVec 32) (c : Dev nD) : BitVec 1 := Scalar.cmpi .ne (Scalar.extui (Scalar.cmpi .sge (myW c) k) : BitVec 32) 0#32

theorem waitW_iff : ∀ (j : Fin 15) (c : Dev nD), waitW (BitVec.ofNat 32 (j.val + 1)) c = 1#1 ↔ Hi j c := by decide +kernel
theorem comeW_iff : ∀ (j : Fin 15) (c : Dev nD), comeW (BitVec.ofNat 32 (j.val + 1)) c = 1#1 ↔ Lo j c := by decide +kernel

/-- The barrier semaphore, as the parts of the body pass it on. -/
abbrev barA : Sems sig S_ := SemArray.scalar (sig.barrier 0 rfl)

/-- The first loop after `n` signals, all rows still owed. -/
abbrev sigPhase (R : sProp 𝕄) (n : ℕ) : sProp 𝕄 :=
  phase K P c (rest (rowDue c) 0 + rest (sigDue c) n) iprop(emp) R (sigA (F := F) c) (sigB c) n
/-- The second loop after `n` waits at the barrier, -/
abbrev gatePhase (R : sProp 𝕄) (n : ℕ) : sProp 𝕄 :=
  phase K P c (rest (rowDue c) 0) (gateSt P c n) R (gateA (F := F) c) (fun _ => iprop(emp)) n
/-- the third after `n` transfers, -/
abbrev sendPhase (R : sProp 𝕄) (n : ℕ) : sProp 𝕄 :=
  phase K P c (rest (rowDue c) n) iprop(emp) R (sendA P c) (sendB P c) n
/-- the fourth after `n` waits for landed rows, -/
abbrev recvPhase (R : sProp 𝕄) (n : ℕ) : sProp 𝕄 := phase K P c 0 iprop(emp) R (recvA (F := F) c) (recvB P c) n
/-- the fifth after `n` waits for sent rows. -/
abbrev backPhase (R : sProp 𝕄) (n : ℕ) : sProp 𝕄 := phase K P c 0 iprop(emp) R (backA P c) (backB P c) n

theorem hz : (![0, 0] : Fin 2 → Nat) = fun _ => 0 := funext fun a => by fin_cases a <;> rfl

set_option maxHeartbeats 4000000 in
/-- The body's first piece: signals 1 to 8. -/
theorem run_part1 {R : sProp 𝕄}  {Kt}
    (h : sigPhase K P c R 8 ⊢ Kt ⟨c, myW c, barA⟩) :
    sigPhase K P c R 0 ⊢ wpB c (k0_part1 xM (Memref.isWhole_whole _) oM (Memref.isWhole_whole _) sM (Memref.isWhole_whole _) lM (Memref.isWhole_whole _) cc0_scratch2 cc0_scratch3) Kt := by
  rw [k0_part1_eq_skeleton]; unfold k0_part1_skel
  refine device_step c ?_
  refine sig_step K P c 0 rfl (p := fun c => k0_cond1 c = 1#1) (by decide +kernel) (dv := fun c h => ⟨k0_dev1 c, k0_dev1_lt c h⟩) (by decide +kernel) rfl (D := rest (rowDue c) 0) (R := R) ?_
  refine sig_step K P c 1 rfl (p := fun c => k0_cond2 c = 1#1) (by decide +kernel) (dv := fun c h => ⟨k0_dev2 c, k0_dev2_lt c h⟩) (by decide +kernel) rfl (D := rest (rowDue c) 0) (R := R) ?_
  refine sig_step K P c 2 rfl (p := fun c => k0_cond3 c = 1#1) (by decide +kernel) (dv := fun c h => ⟨k0_dev3 c, k0_dev3_lt c h⟩) (by decide +kernel) rfl (D := rest (rowDue c) 0) (R := R) ?_
  refine sig_step K P c 3 rfl (p := fun c => k0_cond4 c = 1#1) (by decide +kernel) (dv := fun c h => ⟨k0_dev4 c, k0_dev4_lt c h⟩) (by decide +kernel) rfl (D := rest (rowDue c) 0) (R := R) ?_
  refine sig_step K P c 4 rfl (p := fun c => k0_cond5 c = 1#1) (by decide +kernel) (dv := fun c h => ⟨k0_dev5 c, k0_dev5_lt c h⟩) (by decide +kernel) rfl (D := rest (rowDue c) 0) (R := R) ?_
  refine sig_step K P c 5 rfl (p := fun c => k0_cond6 c = 1#1) (by decide +kernel) (dv := fun c h => ⟨k0_dev6 c, k0_dev6_lt c h⟩) (by decide +kernel) rfl (D := rest (rowDue c) 0) (R := R) ?_
  refine sig_step K P c 6 rfl (p := fun c => k0_cond7 c = 1#1) (by decide +kernel) (dv := fun c h => ⟨k0_dev7 c, k0_dev7_lt c h⟩) (by decide +kernel) rfl (D := rest (rowDue c) 0) (R := R) ?_
  refine sig_step K P c 7 rfl (p := fun c => k0_cond8 c = 1#1) (by decide +kernel) (dv := fun c h => ⟨k0_dev8 c, k0_dev8_lt c h⟩) (by decide +kernel) rfl (D := rest (rowDue c) 0) (R := R) ?_
  exact ret_step c h
set_option maxHeartbeats 4000000 in
/-- Signals 9 to 15; the block is read. -/
theorem run_part2 {R : sProp 𝕄} {X : Buf (Elt F) ((xM : Memref sig .tc .vmem S256x256 .bf16).view.loc (c : Thread nD τ))} {Kt}
    (h : sigPhase K P c iprop(((xM : Memref sig .tc .vmem S256x256 .bf16).view.loc (c : Thread nD τ) ↦{fullShare} X) ∗ R) 15 ⊢ Kt ⟨k0_pay1 X, k0_pay2 X⟩) :
    sigPhase K P c iprop(((xM : Memref sig .tc .vmem S256x256 .bf16).view.loc (c : Thread nD τ) ↦{fullShare} X) ∗ R) 8 ⊢ wpB c (k0_part2 xM (Memref.isWhole_whole _) oM (Memref.isWhole_whole _) sM (Memref.isWhole_whole _) lM (Memref.isWhole_whole _) cc0_scratch2 cc0_scratch3 c (myW c) barA) Kt := by
  rw [k0_part2_eq_skeleton]; unfold k0_part2_skel
  refine sig_step K P c 8 rfl (p := fun c => k0_cond9 c = 1#1) (by decide +kernel) (dv := fun c h => ⟨k0_dev9 c, k0_dev9_lt c h⟩) (by decide +kernel) rfl (D := rest (rowDue c) 0) (R := iprop(((xM : Memref sig .tc .vmem S256x256 .bf16).view.loc (c : Thread nD τ) ↦{fullShare} X) ∗ R)) ?_
  refine sig_step K P c 9 rfl (p := fun c => k0_cond10 c = 1#1) (by decide +kernel) (dv := fun c h => ⟨k0_dev10 c, k0_dev10_lt c h⟩) (by decide +kernel) rfl (D := rest (rowDue c) 0) (R := iprop(((xM : Memref sig .tc .vmem S256x256 .bf16).view.loc (c : Thread nD τ) ↦{fullShare} X) ∗ R)) ?_
  refine sig_step K P c 10 rfl (p := fun c => k0_cond11 c = 1#1) (by decide +kernel) (dv := fun c h => ⟨k0_dev11 c, k0_dev11_lt c h⟩) (by decide +kernel) rfl (D := rest (rowDue c) 0) (R := iprop(((xM : Memref sig .tc .vmem S256x256 .bf16).view.loc (c : Thread nD τ) ↦{fullShare} X) ∗ R)) ?_
  refine sig_step K P c 11 rfl (p := fun c => k0_cond12 c = 1#1) (by decide +kernel) (dv := fun c h => ⟨k0_dev12 c, k0_dev12_lt c h⟩) (by decide +kernel) rfl (D := rest (rowDue c) 0) (R := iprop(((xM : Memref sig .tc .vmem S256x256 .bf16).view.loc (c : Thread nD τ) ↦{fullShare} X) ∗ R)) ?_
  refine sig_step K P c 12 rfl (p := fun c => k0_cond13 c = 1#1) (by decide +kernel) (dv := fun c h => ⟨k0_dev13 c, k0_dev13_lt c h⟩) (by decide +kernel) rfl (D := rest (rowDue c) 0) (R := iprop(((xM : Memref sig .tc .vmem S256x256 .bf16).view.loc (c : Thread nD τ) ↦{fullShare} X) ∗ R)) ?_
  refine sig_step K P c 13 rfl (p := fun c => k0_cond14 c = 1#1) (by decide +kernel) (dv := fun c h => ⟨k0_dev14 c, k0_dev14_lt c h⟩) (by decide +kernel) rfl (D := rest (rowDue c) 0) (R := iprop(((xM : Memref sig .tc .vmem S256x256 .bf16).view.loc (c : Thread nD τ) ↦{fullShare} X) ∗ R)) ?_
  refine sig_step K P c 14 rfl (p := fun c => k0_cond15 c = 1#1) (by decide +kernel) (dv := fun c h => ⟨k0_dev15 c, k0_dev15_lt c h⟩) (by decide +kernel) rfl (D := rest (rowDue c) 0) (R := iprop(((xM : Memref sig .tc .vmem S256x256 .bf16).view.loc (c : Thread nD τ) ↦{fullShare} X) ∗ R)) ?_
  refine load_step K P c (m := xM) (f := X) (v := X) (Memref.readAt_unit_zero (Elt F) cc0_stg0_0 hz _ X) ?_
  exact ret_step c h
end Cert.CumProd

end
-- ==== Proof.Gates.lean ====
/-
# The waits at the barrier

The printed pieces of the body, each run through by the steps of its loops.
-/
module

public import proofs.«01_k».proof.Proof.Signals

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

set_option maxHeartbeats 4000000 in
/-- The block's product is stored in the outgoing row; waits 1 to 5 at the barrier. -/
theorem run_part3 {R : sProp 𝕄} {f0 : SendBuf F} {v69 : FVec F S4x256 .f32} {Kt}
    (h : gatePhase K P c iprop(((sM : Memref sig .tc .vmem S1x256 .f32).view.loc (c : Thread nD τ) ↦{fullShare} k0_pay3 v69) ∗ R) 5 ⊢ Kt (waitW 6#32 c)) :
    gatePhase K P c iprop(((sM : Memref sig .tc .vmem S1x256 .f32).view.loc (c : Thread nD τ) ↦{fullShare} f0) ∗ R) 0 ⊢ wpB c (k0_part3 xM (Memref.isWhole_whole _) oM (Memref.isWhole_whole _) sM (Memref.isWhole_whole _) lM (Memref.isWhole_whole _) cc0_scratch2 cc0_scratch3 (myW c) barA v69) Kt := by
  rw [k0_part3_eq_skeleton]; unfold k0_part3_skel
  refine load_step K P c (m := sM) (f := f0) (v := f0) (Memref.readAt_unit_zero (Elt F) cc0_scratch0 hz _ f0) ?_
  refine store_step K P c (m := sM) (f := f0) (g := k0_pay3 v69) (Memref.write_access_unit_zero_univ (Elt F) cc0_scratch0 hz _ f0 _) ?_
  refine gate_step K P c 0 rfl (p := fun c => waitW 1#32 c = 1#1) (waitW_iff 0) (sem := barS) rfl (R := iprop(((sM : Memref sig .tc .vmem S1x256 .f32).view.loc (c : Thread nD τ) ↦{fullShare} k0_pay3 v69) ∗ R)) ?_
  refine gate_step K P c 1 rfl (p := fun c => waitW 2#32 c = 1#1) (waitW_iff 1) (sem := barS) rfl (R := iprop(((sM : Memref sig .tc .vmem S1x256 .f32).view.loc (c : Thread nD τ) ↦{fullShare} k0_pay3 v69) ∗ R)) ?_
  refine gate_step K P c 2 rfl (p := fun c => waitW 3#32 c = 1#1) (waitW_iff 2) (sem := barS) rfl (R := iprop(((sM : Memref sig .tc .vmem S1x256 .f32).view.loc (c : Thread nD τ) ↦{fullShare} k0_pay3 v69) ∗ R)) ?_
  refine gate_step K P c 3 rfl (p := fun c => waitW 4#32 c = 1#1) (waitW_iff 3) (sem := barS) rfl (R := iprop(((sM : Memref sig .tc .vmem S1x256 .f32).view.loc (c : Thread nD τ) ↦{fullShare} k0_pay3 v69) ∗ R)) ?_
  refine gate_step K P c 4 rfl (p := fun c => waitW 5#32 c = 1#1) (waitW_iff 4) (sem := barS) rfl (R := iprop(((sM : Memref sig .tc .vmem S1x256 .f32).view.loc (c : Thread nD τ) ↦{fullShare} k0_pay3 v69) ∗ R)) ?_
  exact ret_step c h
set_option maxHeartbeats 4000000 in
/-- Waits 6 to 13 at the barrier. -/
theorem run_part4 {R : sProp 𝕄}  {Kt}
    (h : gatePhase K P c R 13 ⊢ Kt ⟨Scalar.addi (myW c) 14#32, 16#32⟩) :
    gatePhase K P c R 5 ⊢ wpB c (k0_part4 xM (Memref.isWhole_whole _) oM (Memref.isWhole_whole _) sM (Memref.isWhole_whole _) lM (Memref.isWhole_whole _) cc0_scratch2 cc0_scratch3 (myW c) barA (waitW 6#32 c)) Kt := by
  rw [k0_part4_eq_skeleton]; unfold k0_part4_skel
  refine gate_step K P c 5 rfl (p := fun c => waitW 6#32 c = 1#1) (waitW_iff 5) (sem := barS) rfl (R := R) ?_
  refine gate_step K P c 6 rfl (p := fun c => waitW 7#32 c = 1#1) (waitW_iff 6) (sem := barS) rfl (R := R) ?_
  refine gate_step K P c 7 rfl (p := fun c => waitW 8#32 c = 1#1) (waitW_iff 7) (sem := barS) rfl (R := R) ?_
  refine gate_step K P c 8 rfl (p := fun c => waitW 9#32 c = 1#1) (waitW_iff 8) (sem := barS) rfl (R := R) ?_
  refine gate_step K P c 9 rfl (p := fun c => waitW 10#32 c = 1#1) (waitW_iff 9) (sem := barS) rfl (R := R) ?_
  refine gate_step K P c 10 rfl (p := fun c => waitW 11#32 c = 1#1) (waitW_iff 10) (sem := barS) rfl (R := R) ?_
  refine gate_step K P c 11 rfl (p := fun c => waitW 12#32 c = 1#1) (waitW_iff 11) (sem := barS) rfl (R := R) ?_
  refine gate_step K P c 12 rfl (p := fun c => waitW 13#32 c = 1#1) (waitW_iff 12) (sem := barS) rfl (R := R) ?_
  exact ret_step c h
set_option maxHeartbeats 4000000 in
/-- Waits 14 and 15 at the barrier, then transfer 1. -/
theorem run_part5 {R : sProp 𝕄} {R' : sProp 𝕄} {Kt}
    (hnext : ∀ {α : Type} {p : Prog (TpuEff nD τ sig (Elt F) Λ₀ .tc) α} {Kt : α → sProp 𝕄}, (sendPhase K P c R' 0 ⊢ wpB c p Kt) → (gatePhase K P c R 15 ⊢ wpB c p Kt))
    (h : ∀ a, sendPhase K P c R' 1 ⊢ Kt a) :
    gatePhase K P c R 13 ⊢ wpB c (k0_part5 xM (Memref.isWhole_whole _) oM (Memref.isWhole_whole _) sM (Memref.isWhole_whole _) lM (Memref.isWhole_whole _) cc0_scratch2 cc0_scratch3 c (myW c) barA (Scalar.addi (myW c) 14#32) 16#32) Kt := by
  rw [k0_part5_eq_skeleton]; unfold k0_part5_skel
  refine gate_step K P c 13 rfl (p := fun c => waitW 14#32 c = 1#1) (waitW_iff 13) (sem := barS) rfl (R := R) ?_
  refine gate_step K P c 14 rfl (p := fun c => waitW 15#32 c = 1#1) (waitW_iff 14) (sem := barS) rfl (R := R) ?_
  refine hnext ?_
  refine transfer_step K P c 0 rfl (p := fun c => k0_cond31 c = 1#1) (by decide +kernel) (R := R') ?_
    fun h => send_op_eq c 0 ((by decide +kernel : ∀ c h, (⟨k0_dev16 c, k0_dev16_lt c h⟩ : Dev nD) = up 0 c) c h) rfl rfl rfl
  exact ret_step c (h _)
end Cert.CumProd

end
-- ==== Proof.SendsA.lean ====
/-
# The first transfers

The printed pieces of the body, each run through by the steps of its loops.
-/
module

public import proofs.«01_k».proof.Proof.Signals

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

set_option maxHeartbeats 4000000 in
/-- Transfers 2 and 3. -/
theorem run_part6 {R : sProp 𝕄} {u v : BitVec 32} {Kt}
    (h : ∀ a, sendPhase K P c R 3 ⊢ Kt a) :
    sendPhase K P c R 1 ⊢ wpB c (k0_part6 xM (Memref.isWhole_whole _) oM (Memref.isWhole_whole _) sM (Memref.isWhole_whole _) lM (Memref.isWhole_whole _) cc0_scratch2 cc0_scratch3 c (myW c) u v) Kt := by
  rw [k0_part6_eq_skeleton]; unfold k0_part6_skel
  refine transfer_step K P c 1 rfl (p := fun c => k0_cond32 c = 1#1) (by decide +kernel) (R := R) ?_
    fun h => send_op_eq c 1 ((by decide +kernel : ∀ c h, (⟨k0_dev17 c, k0_dev17_lt c h⟩ : Dev nD) = up 1 c) c h) rfl rfl rfl
  refine transfer_step K P c 2 rfl (p := fun c => k0_cond33 c = 1#1) (by decide +kernel) (R := R) ?_
    fun h => send_op_eq c 2 ((by decide +kernel : ∀ c h, (⟨k0_dev18 c, k0_dev18_lt c h⟩ : Dev nD) = up 2 c) c h) rfl rfl rfl
  exact ret_step c (h _)
set_option maxHeartbeats 4000000 in
/-- Transfers 4 and 5. -/
theorem run_part7 {R : sProp 𝕄} {u v : BitVec 32} {Kt}
    (h : ∀ a, sendPhase K P c R 5 ⊢ Kt a) :
    sendPhase K P c R 3 ⊢ wpB c (k0_part7 xM (Memref.isWhole_whole _) oM (Memref.isWhole_whole _) sM (Memref.isWhole_whole _) lM (Memref.isWhole_whole _) cc0_scratch2 cc0_scratch3 c (myW c) u v) Kt := by
  rw [k0_part7_eq_skeleton]; unfold k0_part7_skel
  refine transfer_step K P c 3 rfl (p := fun c => k0_cond34 c = 1#1) (by decide +kernel) (R := R) ?_
    fun h => send_op_eq c 3 ((by decide +kernel : ∀ c h, (⟨k0_dev19 c, k0_dev19_lt c h⟩ : Dev nD) = up 3 c) c h) rfl rfl rfl
  refine transfer_step K P c 4 rfl (p := fun c => k0_cond35 c = 1#1) (by decide +kernel) (R := R) ?_
    fun h => send_op_eq c 4 ((by decide +kernel : ∀ c h, (⟨k0_dev20 c, k0_dev20_lt c h⟩ : Dev nD) = up 4 c) c h) rfl rfl rfl
  exact ret_step c (h _)
set_option maxHeartbeats 4000000 in
/-- Transfers 6 to 8. -/
theorem run_part8 {R : sProp 𝕄} {u : BitVec 32} {Kt}
    (h : ∀ a, sendPhase K P c R 8 ⊢ Kt a) :
    sendPhase K P c R 5 ⊢ wpB c (k0_part8 xM (Memref.isWhole_whole _) oM (Memref.isWhole_whole _) sM (Memref.isWhole_whole _) lM (Memref.isWhole_whole _) cc0_scratch2 cc0_scratch3 c (myW c) u) Kt := by
  rw [k0_part8_eq_skeleton]; unfold k0_part8_skel
  refine transfer_step K P c 5 rfl (p := fun c => k0_cond36 c = 1#1) (by decide +kernel) (R := R) ?_
    fun h => send_op_eq c 5 ((by decide +kernel : ∀ c h, (⟨k0_dev21 c, k0_dev21_lt c h⟩ : Dev nD) = up 5 c) c h) rfl rfl rfl
  refine transfer_step K P c 6 rfl (p := fun c => k0_cond37 c = 1#1) (by decide +kernel) (R := R) ?_
    fun h => send_op_eq c 6 ((by decide +kernel : ∀ c h, (⟨k0_dev22 c, k0_dev22_lt c h⟩ : Dev nD) = up 6 c) c h) rfl rfl rfl
  refine transfer_step K P c 7 rfl (p := fun c => k0_cond38 c = 1#1) (by decide +kernel) (R := R) ?_
    fun h => send_op_eq c 7 ((by decide +kernel : ∀ c h, (⟨k0_dev23 c, k0_dev23_lt c h⟩ : Dev nD) = up 7 c) c h) rfl rfl rfl
  exact ret_step c (h _)
set_option maxHeartbeats 4000000 in
/-- Transfers 9 and 10. -/
theorem run_part9 {R : sProp 𝕄} {u v : BitVec 32} {Kt}
    (h : ∀ a, sendPhase K P c R 10 ⊢ Kt a) :
    sendPhase K P c R 8 ⊢ wpB c (k0_part9 xM (Memref.isWhole_whole _) oM (Memref.isWhole_whole _) sM (Memref.isWhole_whole _) lM (Memref.isWhole_whole _) cc0_scratch2 cc0_scratch3 c (myW c) u v) Kt := by
  rw [k0_part9_eq_skeleton]; unfold k0_part9_skel
  refine transfer_step K P c 8 rfl (p := fun c => k0_cond39 c = 1#1) (by decide +kernel) (R := R) ?_
    fun h => send_op_eq c 8 ((by decide +kernel : ∀ c h, (⟨k0_dev24 c, k0_dev24_lt c h⟩ : Dev nD) = up 8 c) c h) rfl rfl rfl
  refine transfer_step K P c 9 rfl (p := fun c => k0_cond40 c = 1#1) (by decide +kernel) (R := R) ?_
    fun h => send_op_eq c 9 ((by decide +kernel : ∀ c h, (⟨k0_dev25 c, k0_dev25_lt c h⟩ : Dev nD) = up 9 c) c h) rfl rfl rfl
  exact ret_step c (h _)
end Cert.CumProd

end
-- ==== Proof.SendsB.lean ====
/-
# The last transfers and the first landed rows

The printed pieces of the body, each run through by the steps of its loops.
-/
module

public import proofs.«01_k».proof.Proof.Signals

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

set_option maxHeartbeats 4000000 in
/-- Transfers 11 and 12. -/
theorem run_part10 {R : sProp 𝕄} {u v : BitVec 32} {Kt}
    (h : ∀ a, sendPhase K P c R 12 ⊢ Kt a) :
    sendPhase K P c R 10 ⊢ wpB c (k0_part10 xM (Memref.isWhole_whole _) oM (Memref.isWhole_whole _) sM (Memref.isWhole_whole _) lM (Memref.isWhole_whole _) cc0_scratch2 cc0_scratch3 c (myW c) u v) Kt := by
  rw [k0_part10_eq_skeleton]; unfold k0_part10_skel
  refine transfer_step K P c 10 rfl (p := fun c => k0_cond41 c = 1#1) (by decide +kernel) (R := R) ?_
    fun h => send_op_eq c 10 ((by decide +kernel : ∀ c h, (⟨k0_dev26 c, k0_dev26_lt c h⟩ : Dev nD) = up 10 c) c h) rfl rfl rfl
  refine transfer_step K P c 11 rfl (p := fun c => k0_cond42 c = 1#1) (by decide +kernel) (R := R) ?_
    fun h => send_op_eq c 11 ((by decide +kernel : ∀ c h, (⟨k0_dev27 c, k0_dev27_lt c h⟩ : Dev nD) = up 11 c) c h) rfl rfl rfl
  exact ret_step c (h _)
set_option maxHeartbeats 4000000 in
/-- Transfers 13 and 14. -/
theorem run_part11 {R : sProp 𝕄} {u v : BitVec 32} {w : BitVec 1} {x : BitVec 32} {Kt}
    (h : ∀ a, sendPhase K P c R 14 ⊢ Kt a) :
    sendPhase K P c R 12 ⊢ wpB c (k0_part11 xM (Memref.isWhole_whole _) oM (Memref.isWhole_whole _) sM (Memref.isWhole_whole _) lM (Memref.isWhole_whole _) cc0_scratch2 cc0_scratch3 c (myW c) u v w x) Kt := by
  rw [k0_part11_eq_skeleton]; unfold k0_part11_skel
  refine transfer_step K P c 12 rfl (p := fun c => k0_cond43 c = 1#1) (by decide +kernel) (R := R) ?_
    fun h => send_op_eq c 12 ((by decide +kernel : ∀ c h, (⟨k0_dev28 c, k0_dev28_lt c h⟩ : Dev nD) = up 12 c) c h) rfl rfl rfl
  refine transfer_step K P c 13 rfl (p := fun c => k0_cond44 c = 1#1) (by decide +kernel) (R := R) ?_
    fun h => send_op_eq c 13 ((by decide +kernel : ∀ c h, (⟨k0_dev29 c, k0_dev29_lt c h⟩ : Dev nD) = up 13 c) c h) rfl rfl rfl
  exact ret_step c (h _)
set_option maxHeartbeats 4000000 in
/-- Transfer 15; the block's own prefix products are computed. -/
theorem run_part12 {R : sProp 𝕄} {v51 : FVec F S256x256 .f32} {u v : BitVec 32} {w x : BitVec 1} {Kt}
    (h : ∀ a, sendPhase K P c R 15 ⊢ Kt ⟨a, k0_pay4 v51, comeW 1#32 c⟩) :
    sendPhase K P c R 14 ⊢ wpB c (k0_part12 xM (Memref.isWhole_whole _) oM (Memref.isWhole_whole _) sM (Memref.isWhole_whole _) lM (Memref.isWhole_whole _) cc0_scratch2 cc0_scratch3 c (myW c) v51 u v w x) Kt := by
  rw [k0_part12_eq_skeleton]; unfold k0_part12_skel
  refine transfer_step K P c 14 rfl (p := fun c => k0_cond45 c = 1#1) (by decide +kernel) (R := R) ?_
    fun h => send_op_eq c 14 ((by decide +kernel : ∀ c h, (⟨k0_dev30 c, k0_dev30_lt c h⟩ : Dev nD) = up 14 c) c h) rfl rfl rfl
  exact ret_step c (h _)
set_option maxHeartbeats 4000000 in
/-- Waits 1 to 8 for landed rows. -/
theorem run_part13 {R : sProp 𝕄} {a b d e f g i j : BitVec 32} {Kt}
    (h : recvPhase K P c R 8 ⊢ Kt (Scalar.extui (Scalar.cmpi .sge (myW c) 9#32))) :
    recvPhase K P c R 0 ⊢ wpB c (k0_part13 xM (Memref.isWhole_whole _) oM (Memref.isWhole_whole _) sM (Memref.isWhole_whole _) lM (Memref.isWhole_whole _) cc0_scratch2 cc0_scratch3 (myW c) a b d e f g i j (comeW 1#32 c)) Kt := by
  rw [k0_part13_eq_skeleton]; unfold k0_part13_skel
  refine recv_step K P c 0 rfl (p := fun c => comeW 1#32 c = 1#1) (comeW_iff 0) (q := innS 0) rfl (src := sM) (dst := rowM 0) rfl (R := R) ?_
  refine recv_step K P c 1 rfl (p := fun c => comeW 2#32 c = 1#1) (comeW_iff 1) (q := innS 1) rfl (src := sM) (dst := rowM 1) rfl (R := R) ?_
  refine recv_step K P c 2 rfl (p := fun c => comeW 3#32 c = 1#1) (comeW_iff 2) (q := innS 2) rfl (src := sM) (dst := rowM 2) rfl (R := R) ?_
  refine recv_step K P c 3 rfl (p := fun c => comeW 4#32 c = 1#1) (comeW_iff 3) (q := innS 3) rfl (src := sM) (dst := rowM 3) rfl (R := R) ?_
  refine recv_step K P c 4 rfl (p := fun c => comeW 5#32 c = 1#1) (comeW_iff 4) (q := innS 4) rfl (src := sM) (dst := rowM 4) rfl (R := R) ?_
  refine recv_step K P c 5 rfl (p := fun c => comeW 6#32 c = 1#1) (comeW_iff 5) (q := innS 5) rfl (src := sM) (dst := rowM 5) rfl (R := R) ?_
  refine recv_step K P c 6 rfl (p := fun c => comeW 7#32 c = 1#1) (comeW_iff 6) (q := innS 6) rfl (src := sM) (dst := rowM 6) rfl (R := R) ?_
  refine recv_step K P c 7 rfl (p := fun c => comeW 8#32 c = 1#1) (comeW_iff 7) (q := innS 7) rfl (src := sM) (dst := rowM 7) rfl (R := R) ?_
  exact ret_step c h
end Cert.CumProd

end
-- ==== Proof.Waits.lean ====
/-
# The last landed rows, the result, the sent rows

The printed pieces of the body, each run through by the steps of its loops.
-/
module

public import proofs.«01_k».proof.Proof.Signals

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

set_option maxHeartbeats 4000000 in
/-- Waits 9 to 15 for landed rows; the rows are read. -/
theorem run_part14 {R : sProp 𝕄} {R' : LandBuf F → sProp 𝕄} {good : LandBuf F → Prop} {a b d e f g i : BitVec 32} {Kt}
    (hnext : ∀ {α : Type} {p : Prog (TpuEff nD τ sig (Elt F) Λ₀ .tc) α} {Kt : α → sProp 𝕄}, (∀ v, good v → backPhase K P c iprop(((lM : Memref sig .tc .vmem S15x256 .f32).view.loc (c : Thread nD τ) ↦{fullShare} v) ∗ R' v) 0 ⊢ wpB c p Kt) → (recvPhase K P c R 15 ⊢ wpB c p Kt))
    (h : ∀ v, good v → backPhase K P c iprop(((lM : Memref sig .tc .vmem S15x256 .f32).view.loc (c : Thread nD τ) ↦{fullShare} v) ∗ R' v) 0 ⊢ Kt ⟨v, k0_pay5 (myW c), Scalar.ofBits .f32 0x3F800000#32⟩) :
    recvPhase K P c R 8 ⊢ wpB c (k0_part14 xM (Memref.isWhole_whole _) oM (Memref.isWhole_whole _) sM (Memref.isWhole_whole _) lM (Memref.isWhole_whole _) cc0_scratch2 cc0_scratch3 (myW c) a b d e f g i (Scalar.extui (Scalar.cmpi .sge (myW c) 9#32))) Kt := by
  rw [k0_part14_eq_skeleton]; unfold k0_part14_skel
  refine recv_step K P c 8 rfl (p := fun c => comeW 9#32 c = 1#1) (comeW_iff 8) (q := innS 8) rfl (src := sM) (dst := rowM 8) rfl (R := R) ?_
  refine recv_step K P c 9 rfl (p := fun c => comeW 10#32 c = 1#1) (comeW_iff 9) (q := innS 9) rfl (src := sM) (dst := rowM 9) rfl (R := R) ?_
  refine recv_step K P c 10 rfl (p := fun c => comeW 11#32 c = 1#1) (comeW_iff 10) (q := innS 10) rfl (src := sM) (dst := rowM 10) rfl (R := R) ?_
  refine recv_step K P c 11 rfl (p := fun c => comeW 12#32 c = 1#1) (comeW_iff 11) (q := innS 11) rfl (src := sM) (dst := rowM 11) rfl (R := R) ?_
  refine recv_step K P c 12 rfl (p := fun c => comeW 13#32 c = 1#1) (comeW_iff 12) (q := innS 12) rfl (src := sM) (dst := rowM 12) rfl (R := R) ?_
  refine recv_step K P c 13 rfl (p := fun c => comeW 14#32 c = 1#1) (comeW_iff 13) (q := innS 13) rfl (src := sM) (dst := rowM 13) rfl (R := R) ?_
  refine recv_step K P c 14 rfl (p := fun c => comeW 15#32 c = 1#1) (comeW_iff 14) (q := innS 14) rfl (src := sM) (dst := rowM 14) rfl (R := R) ?_
  refine hnext fun v hv => ?_
  refine load_step K P c (m := lM) (f := v) (v := v) (Memref.readAt_unit_zero (Elt F) cc0_scratch1 hz _ v) ?_
  exact ret_step c (h v hv)
set_option maxHeartbeats 4000000 in
/-- The result is stored; waits 1 to 3 for sent rows. -/
theorem run_part15 {R : sProp 𝕄} {g0 : Buf (Elt F) ((oM : Memref sig .tc .vmem S256x256 .f32).view.loc (c : Thread nD τ))} {v396 : FVec F S256x256 .f32} {v442 : Vec F S15x256 .f32} {v445 : IVec S15x256 1} {x : F .f32} {Kt}
    (h : backPhase K P c iprop(((oM : Memref sig .tc .vmem S256x256 .f32).view.loc (c : Thread nD τ) ↦{fullShare} k0_pay6 v396 v442 v445 x) ∗ R) 3 ⊢ Kt (Scalar.extui (Scalar.cmpi .slt (Scalar.addi (myW c) 4#32) 16#32))) :
    backPhase K P c iprop(((oM : Memref sig .tc .vmem S256x256 .f32).view.loc (c : Thread nD τ) ↦{fullShare} g0) ∗ R) 0 ⊢ wpB c (k0_part15 xM (Memref.isWhole_whole _) oM (Memref.isWhole_whole _) sM (Memref.isWhole_whole _) lM (Memref.isWhole_whole _) cc0_scratch2 cc0_scratch3 (myW c) v396 v442 v445 x) Kt := by
  rw [k0_part15_eq_skeleton]; unfold k0_part15_skel
  refine load_step K P c (m := oM) (f := g0) (v := g0) (Memref.readAt_unit_zero (Elt F) cc0_stg1_0 hz _ g0) ?_
  refine store_step K P c (m := oM) (f := g0) (g := k0_pay6 v396 v442 v445 x) (Memref.write_access_unit_zero_univ (Elt F) cc0_stg1_0 hz _ g0 _) ?_
  refine back_step K P c 0 rfl (p := fun c => waitW 1#32 c = 1#1) (waitW_iff 0) (q := outS 0) rfl (src := rowM 0) (dst := sM) rfl (R := iprop(((oM : Memref sig .tc .vmem S256x256 .f32).view.loc (c : Thread nD τ) ↦{fullShare} k0_pay6 v396 v442 v445 x) ∗ R)) ?_
  refine back_step K P c 1 rfl (p := fun c => waitW 2#32 c = 1#1) (waitW_iff 1) (q := outS 1) rfl (src := rowM 1) (dst := sM) rfl (R := iprop(((oM : Memref sig .tc .vmem S256x256 .f32).view.loc (c : Thread nD τ) ↦{fullShare} k0_pay6 v396 v442 v445 x) ∗ R)) ?_
  refine back_step K P c 2 rfl (p := fun c => waitW 3#32 c = 1#1) (waitW_iff 2) (q := outS 2) rfl (src := rowM 2) (dst := sM) rfl (R := iprop(((oM : Memref sig .tc .vmem S256x256 .f32).view.loc (c : Thread nD τ) ↦{fullShare} k0_pay6 v396 v442 v445 x) ∗ R)) ?_
  exact ret_step c h
set_option maxHeartbeats 4000000 in
/-- Waits 4 to 9 for sent rows. -/
theorem run_part16 {R : sProp 𝕄}  {Kt}
    (h : backPhase K P c R 9 ⊢ Kt (Scalar.extui (Scalar.cmpi .slt (Scalar.addi (myW c) 10#32) 16#32))) :
    backPhase K P c R 3 ⊢ wpB c (k0_part16 xM (Memref.isWhole_whole _) oM (Memref.isWhole_whole _) sM (Memref.isWhole_whole _) lM (Memref.isWhole_whole _) cc0_scratch2 cc0_scratch3 (myW c) (Scalar.extui (Scalar.cmpi .slt (Scalar.addi (myW c) 4#32) 16#32))) Kt := by
  rw [k0_part16_eq_skeleton]; unfold k0_part16_skel
  refine back_step K P c 3 rfl (p := fun c => waitW 4#32 c = 1#1) (waitW_iff 3) (q := outS 3) rfl (src := rowM 3) (dst := sM) rfl (R := R) ?_
  refine back_step K P c 4 rfl (p := fun c => waitW 5#32 c = 1#1) (waitW_iff 4) (q := outS 4) rfl (src := rowM 4) (dst := sM) rfl (R := R) ?_
  refine back_step K P c 5 rfl (p := fun c => waitW 6#32 c = 1#1) (waitW_iff 5) (q := outS 5) rfl (src := rowM 5) (dst := sM) rfl (R := R) ?_
  refine back_step K P c 6 rfl (p := fun c => waitW 7#32 c = 1#1) (waitW_iff 6) (q := outS 6) rfl (src := rowM 6) (dst := sM) rfl (R := R) ?_
  refine back_step K P c 7 rfl (p := fun c => waitW 8#32 c = 1#1) (waitW_iff 7) (q := outS 7) rfl (src := rowM 7) (dst := sM) rfl (R := R) ?_
  refine back_step K P c 8 rfl (p := fun c => waitW 9#32 c = 1#1) (waitW_iff 8) (q := outS 8) rfl (src := rowM 8) (dst := sM) rfl (R := R) ?_
  exact ret_step c h
end Cert.CumProd

end
-- ==== Proof.Phases.lean ====
/-
# Between the loops

What a device holds between the loops of its body, and how the end of one is the start of the next.
-/
module

public import proofs.«01_k».proof.Proof.Geometry
public import proofs.«01_k».proof.Proof.Gates
public import proofs.«01_k».proof.Proof.SendsA
public import proofs.«01_k».proof.Proof.SendsB
public import proofs.«01_k».proof.Proof.Waits

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

/-! ## What a device holds between the loops -/

abbrev xP (X : Buf (Elt F) ((xM : Memref sig .tc .vmem S256x256 .bf16).view.loc (c : Thread nD τ))) : sProp 𝕄 := (xM : Memref sig .tc .vmem S256x256 .bf16).view.loc (c : Thread nD τ) ↦{fullShare} X
abbrev oP (g : Buf (Elt F) ((oM : Memref sig .tc .vmem S256x256 .f32).view.loc (c : Thread nD τ))) : sProp 𝕄 := (oM : Memref sig .tc .vmem S256x256 .f32).view.loc (c : Thread nD τ) ↦{fullShare} g
abbrev sP (f : SendBuf F) : sProp 𝕄 := (sM : Memref sig .tc .vmem S1x256 .f32).view.loc (c : Thread nD τ) ↦{fullShare} f
abbrev lP (v : LandBuf F) : sProp 𝕄 := (lM : Memref sig .tc .vmem S15x256 .f32).view.loc (c : Thread nD τ) ↦{fullShare} v

/-- The tokens of transfer `j`'s two ends. -/
def sendTok (j : Fin 15) : sProp 𝕄 := iprop(dutyTok EM (cell (c, out j)) 0 0 ∗ dutyTok EM (cell (up j c, inn j)) 0 0)
/-- The credit of landed row `j`, if it comes, and the place of its channel. -/
def recvPre (j : Fin 15) : sProp 𝕄 := iprop((if Lo j c then cred (tallyAt (cell (c, inn j)) () N) else emp) ∗ atPos EM (cell (c, inn j)) 0 ∅ 0)
/-- The place of the channel of sent row `j`. -/
def backPre (j : Fin 15) : sProp 𝕄 := atPos EM (cell (c, out j)) 0 ∅ 0

/-- What stays aside during the signals beside the two staged blocks and the outgoing row, -/
def aside : sProp 𝕄 :=
  iprop(atPos EM (cell (c, gate)) 0 ∅ 0 ∗ bigSep Finset.univ (gateA (F := F) c) ∗ bigSep Finset.univ (sendTok (F := F) c) ∗ bigSep Finset.univ (recvPre (F := F) c)
    ∗ bigSep Finset.univ (backPre (F := F) c))
/-- during the waits at the barrier, -/
def asideGate : sProp 𝕄 :=
  iprop(bigSep Finset.univ (sendTok (F := F) c) ∗ bigSep Finset.univ (recvPre (F := F) c) ∗ bigSep Finset.univ (backPre (F := F) c) ∗ bigSep Finset.univ (sigB (F := F) c))
/-- during the transfers, -/
def asideSend : sProp 𝕄 :=
  iprop(semVal (cell (c, gate)) 0 ∗ bigSep Finset.univ (recvPre (F := F) c) ∗ bigSep Finset.univ (backPre (F := F) c) ∗ bigSep Finset.univ (sigB (F := F) c))
/-- during the waits for landed rows, -/
def asideRecv : sProp 𝕄 := iprop(semVal (cell (c, gate)) 0 ∗ bigSep Finset.univ (backPre (F := F) c) ∗ bigSep Finset.univ (sendB P c))
/-- and during the waits for sent rows. -/
def asideBack : sProp 𝕄 := iprop(semVal (cell (c, gate)) 0 ∗ bigSep Finset.univ fun j => semVal (cell (c, inn j)) 0)

/-! ## From loop to loop -/

variable {X : Buf (Elt F) ((xM : Memref sig .tc .vmem S256x256 .bf16).view.loc (c : Thread nD τ))} {g0 : Buf (Elt F) ((oM : Memref sig .tc .vmem S256x256 .f32).view.loc (c : Thread nD τ))}
variable {f0 : SendBuf F}

theorem gate_start : (atPos EM (cell (c, gate)) 0 ∅ 0 : sProp 𝕄) ⊢ gateSt P c 0 := by
  unfold gateSt
  rw [took_start]
  iintro H
  iexists ∅
  isplitr
  · ipureintro
    exact ⟨Finset.empty_subset _, by rw [Finset.sdiff_empty, Nat.zero_add]⟩
  isplitl [H]; · iexact H
  rw [bigSep_empty]
  iempintro

/-- From the signals to the waits at the barrier. -/
theorem to_gate {α : Type} {p : Prog (TpuEff nD τ sig (Elt F) Λ₀ .tc) α} {Kt : α → sProp 𝕄}
    (hk : gatePhase K P c iprop(sP c f0 ∗ xP c X ∗ oP c g0 ∗ asideGate c) 0 ⊢ wpB c p Kt) :
    sigPhase K P c iprop(xP c X ∗ sP c f0 ∗ oP c g0 ∗ aside c) 15 ⊢ wpB c p Kt := by
  refine phase_next K P c (Y := Unit) (good := fun _ => True) (R' := fun _ => iprop(sP c f0 ∗ xP c X ∗ oP c g0 ∗ asideGate c))
    (by rw [rest_end, add_zero]) ?_ fun _ _ => hk
  unfold aside asideGate
  iintro ⟨-, -, ⟨HX, Hs, Ho, Hat, HA, Htok, Hr, Hb⟩, HB⟩
  imodintro
  iexists ()
  isplitr; · ipureintro; trivial
  isplitl [Hat]; · iapply (gate_start P c); iexact Hat
  isplitr [HA]
  · isplitl [Hs]; · iexact Hs
    isplitl [HX]; · iexact HX
    isplitl [Ho]; · iexact Ho
    isplitl [Htok]; · iexact Htok
    isplitl [Hr]; · iexact Hr
    isplitl [Hb] <;> iassumption
  iexact HA

theorem sendA_all : iprop(bigSep Finset.univ (peerRow (F := F) c) ∗ bigSep Finset.univ (sharePts P c) ∗ bigSep Finset.univ (sendTok (F := F) c))
    ⊢ bigSep Finset.univ (sendA P c) := by
  rw [← bigSep_sep', ← bigSep_sep']
  exact BI.Entails.refl _

/-- From the barrier to the transfers. -/
theorem to_send {α : Type} {p : Prog (TpuEff nD τ sig (Elt F) Λ₀ .tc) α} {Kt : α → sProp 𝕄}
    (hk : sendPhase K P c iprop(xP c X ∗ oP c g0 ∗ asideSend c) 0 ⊢ wpB c p Kt) :
    gatePhase K P c iprop(sP c (P c) ∗ xP c X ∗ oP c g0 ∗ asideGate c) 15 ⊢ wpB c p Kt := by
  refine phase_next K P c (Y := Unit) (good := fun _ => True) (R' := fun _ => iprop(xP c X ∗ oP c g0 ∗ asideSend c)) rfl ?_ fun _ _ => hk
  unfold asideGate asideSend
  iintro ⟨#Hrec, Hst, ⟨Hs, HX, Ho, Htok, Hr, Hb, HB⟩, -⟩
  imod (gate_done K P c) $$ [Hst] with ⟨Hz, Hrows⟩
  · isplitr; · iexact Hrec
    iexact Hst
  imodintro
  iexists ()
  isplitr; · ipureintro; trivial
  isplitr; · iempintro
  isplitr [Hrows Hs Htok]
  · isplitl [HX]; · iexact HX
    isplitl [Ho]; · iexact Ho
    isplitl [Hz]; · iexact Hz
    isplitl [Hr]; · iexact Hr
    isplitl [Hb] <;> iassumption
  iapply (sendA_all P c)
  isplitl [Hrows]; · iexact Hrows
  isplitl [Hs]; · iapply (Entails.of_eq (shares_eq P c)); iexact Hs
  iexact Htok

theorem recvA_one (j : Fin 15) : iprop(recvPre (F := F) c j ∗ sigB (F := F) c j) ⊢ recvA (F := F) c j := by
  unfold recvPre sigB recvA
  by_cases h : Lo j c
  · rw [if_pos h, if_pos h, if_pos h]
    iintro ⟨H, -⟩; iexact H
  · rw [if_neg h, if_neg h, if_neg h]
    iintro ⟨⟨-, H⟩, Hr⟩
    isplitl [Hr] <;> iassumption

theorem recvA_all : iprop(bigSep Finset.univ (recvPre (F := F) c) ∗ bigSep Finset.univ (sigB (F := F) c)) ⊢ bigSep Finset.univ (recvA (F := F) c) := by
  rw [← bigSep_sep']
  exact bigSep_mono fun j _ => recvA_one c j

/-- From the transfers to the waits for landed rows. -/
theorem to_recv {α : Type} {p : Prog (TpuEff nD τ sig (Elt F) Λ₀ .tc) α} {Kt : α → sProp 𝕄}
    (hk : recvPhase K P c iprop(xP c X ∗ oP c g0 ∗ asideRecv P c) 0 ⊢ wpB c p Kt) :
    sendPhase K P c iprop(xP c X ∗ oP c g0 ∗ asideSend c) 15 ⊢ wpB c p Kt := by
  refine phase_next K P c (Y := Unit) (good := fun _ => True) (R' := fun _ => iprop(xP c X ∗ oP c g0 ∗ asideRecv P c)) (rest_end _) ?_ fun _ _ => hk
  unfold asideSend asideRecv
  iintro ⟨-, -, ⟨HX, Ho, Hz, Hr, Hb, HB⟩, HS⟩
  imodintro
  iexists ()
  isplitr; · ipureintro; trivial
  isplitr; · iempintro
  isplitr [Hr HB]
  · isplitl [HX]; · iexact HX
    isplitl [Ho]; · iexact Ho
    isplitl [Hz]; · iexact Hz
    isplitl [Hb] <;> iassumption
  iapply (recvA_all c)
  isplitl [Hr] <;> iassumption

theorem backA_all : iprop(bigSep Finset.univ (sendB P c) ∗ bigSep Finset.univ (backPre (F := F) c)) ⊢ bigSep Finset.univ (backA P c) := by
  rw [← bigSep_sep']
  exact BI.Entails.refl _

theorem recvB_all : bigSep Finset.univ (recvB P c)
    ⊢ iprop((∃ v, ⌜Landed P c v⌝ ∗ lP c v) ∗ bigSep Finset.univ fun j => semVal (cell (c, inn j)) 0) := by
  have h : bigSep Finset.univ (recvB P c) = iprop((bigSep Finset.univ fun j => if Lo j c then rowPts c j (landed P c) else rowAny (F := F) c j)
      ∗ bigSep Finset.univ fun j => semVal (cell (c, inn j)) 0) := bigSep_sep' _ _ _
  rw [h]
  iintro ⟨H, Hz⟩
  isplitl [H]
  · iapply (rows_join P c); iexact H
  iexact Hz

/-- From the landed rows to the waits for sent rows: the landing buffer is whole again. -/
theorem to_back {α : Type} {p : Prog (TpuEff nD τ sig (Elt F) Λ₀ .tc) α} {Kt : α → sProp 𝕄}
    (hk : ∀ v, Landed P c v → backPhase K P c iprop(lP c v ∗ oP c g0 ∗ xP c X ∗ asideBack c) 0 ⊢ wpB c p Kt) :
    recvPhase K P c iprop(xP c X ∗ oP c g0 ∗ asideRecv P c) 15 ⊢ wpB c p Kt := by
  refine phase_next K P c (good := Landed P c) (R' := fun v => iprop(lP c v ∗ oP c g0 ∗ xP c X ∗ asideBack c)) rfl ?_ hk
  unfold asideRecv asideBack
  iintro ⟨-, -, ⟨HX, Ho, Hz, Hb, HS⟩, HB⟩
  ihave H := (recvB_all P c) $$ HB
  icases H with ⟨⟨%v, %hv, Hl⟩, Hzs⟩
  imodintro
  iexists v
  isplitr; · ipureintro; exact hv
  isplitr; · iempintro
  isplitr [HS Hb]
  · isplitl [Hl]; · iexact Hl
    isplitl [Ho]; · iexact Ho
    isplitl [HX]; · iexact HX
    isplitl [Hz] <;> iassumption
  iapply (backA_all P c)
  isplitl [HS] <;> iassumption

/-! ## The body -/

/-- The word of one, as the body spells it. -/
abbrev oneF : F .f32 := Scalar.ofBits .f32 0x3F800000#32

/-- The block a device stores: its own prefix products times the product of the rows landed from the devices before it. -/
def result (X : Buf (Elt F) ((xM : Memref sig .tc .vmem S256x256 .bf16).view.loc (c : Thread nD τ))) : Buf (Elt F) ((oM : Memref sig .tc .vmem S256x256 .f32).view.loc (c : Thread nD τ)) :=
  k0_pay6 (k0_pay4 (k0_pay1 X)) (landed P c) (k0_pay5 (myW c)) oneF

/-- What is held at the end: nothing owed, both blocks, both scratch buffers, every channel at zero. -/
def bodyEnd (X : Buf (Elt F) ((xM : Memref sig .tc .vmem S256x256 .bf16).view.loc (c : Thread nD τ))) : sProp 𝕄 :=
  iprop(owesAny c 0 ∗ oP c (result P c X) ∗ xP c X ∗ sP c (P c) ∗ (∃ v, lP c v) ∗ semVal (cell (c, gate)) 0
    ∗ (bigSep Finset.univ fun j => semVal (cell (c, inn j)) 0) ∗ bigSep Finset.univ fun j => semVal (cell (c, out j)) 0)

theorem backB_all : bigSep Finset.univ (backB P c) ⊢ iprop(sP c (P c) ∗ bigSep Finset.univ fun j => semVal (cell (c, out j)) 0) := by
  have h : bigSep Finset.univ (backB P c) = iprop((bigSep Finset.univ (sharePts P c)) ∗ bigSep Finset.univ fun j => semVal (cell (c, out j)) 0) := by
    rw [← bigSep_sep']
    refine bigSep_congr fun j _ => ?_
    unfold backB
    rw [ite_self]
  rw [h, ← shares_eq P c]

theorem body_end {v : LandBuf F} : backPhase K P c iprop(oP c (result P c X) ∗ lP c v ∗ xP c X ∗ asideBack c) 15 ⊢ bodyEnd P c X := by
  unfold backPhase phase bodyEnd asideBack
  iintro ⟨-, HO, -, ⟨Ho, Hl, HX, Hz, Hin⟩, Hrun⟩
  ihave HB := (run_end (backA P c) (backB P c)) $$ Hrun
  ihave HB := (backB_all P c) $$ HB
  icases HB with ⟨Hs, Hout⟩
  isplitl [HO]; · iexact HO
  isplitl [Ho]; · iexact Ho
  isplitl [HX]; · iexact HX
  isplitl [Hs]; · iexact Hs
  isplitl [Hl]; · iexists v; iexact Hl
  isplitl [Hz]; · iexact Hz
  isplitl [Hin] <;> iassumption

theorem swap_front {A B C : sProp 𝕄} : iprop(A ∗ B ∗ C) ⊢ iprop(B ∗ A ∗ C) := by
  iintro ⟨HA, HB, HC⟩
  isplitl [HB]; · iexact HB
  isplitl [HA] <;> iassumption

end Cert.CumProd

end
-- ==== Proof.Deal.lean ====
/-
# What the launch deals

The semaphores of all devices shared, the duties dealt to the devices that pay them, and the credit each device starts with.
-/
module

public import proofs.«01_k».proof.Proof.Phases

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the launch deals -/

variable (m : (ℓ : Loc nD τ sig) → Buf (Elt F) ℓ) (ρ : Dev nD → PrngReg)

/-- The block of `x` that device `c` stages. -/
def xstg (c : Dev nD) : (cc0_stg0_0 : Ref sig .tc).ty.Contents (Elt F) :=
  (win0_0.blk (0 : Fin 1)).view.read (Elt F) (m ((c : Thread nD τ).loc main_arg0))

/-- The row each device sends: the product of its block's rows. -/
def sent (c : Dev nD) : SendBuf F := k0_pay3 (k0_pay2 (xstg m c))

/-- The block each device stores. -/
def outAt (c : Dev nD) : (cc0_stg1_0 : Ref sig .tc).ty.Contents (Elt F) := result (sent m) c (xstg m c)

/-- The kernel's own semaphores: the two ends of the fifteen transfers. -/
abbrev osem : Fin 15 ⊕ Fin 15 → SemLoc sig := fun k => semOf (.inr k)

/-- The duties a device's semaphores have: fifteen at the barrier, one at each end of a transfer. -/
abbrev tokOf (ct : Dev nD × Fin 15 ⊕ Dev nD × (Fin 15 ⊕ Fin 15)) : GSem nD τ sig × ℕ × Fin 15 := match ct with
  | .inl cj => (cell (cj.1, gate), 0, cj.2)
  | .inr ck => (cell (ck.1, .inr ck.2), 0, 0)

omit [FloatOps F] in
theorem tokOf_inj : Function.Injective tokOf := by
  rintro (⟨c, j⟩ | ⟨c, k⟩) (⟨c', j'⟩ | ⟨c', k'⟩) h
  · have h1 : (c, gate) = (c', gate) := cell_inj (congrArg Prod.fst h)
    have h2 : j = j' := congrArg (fun x => x.2.2) h
    exact congrArg Sum.inl (Prod.ext (Prod.mk.inj h1).1 h2)
  · have h1 := congrArg Prod.snd (cell_inj (congrArg Prod.fst h)); cases h1
  · have h1 := congrArg Prod.snd (cell_inj (congrArg Prod.fst h)); cases h1
  · have h1 : (c, Sum.inr k) = (c', Sum.inr k') := cell_inj (congrArg Prod.fst h)
    exact congrArg Sum.inr (Prod.ext (Prod.mk.inj h1).1 (Sum.inr.inj (Prod.mk.inj h1).2))

def cells : Finset (GSem nD τ sig) := Finset.univ.map ⟨cell, cell_inj⟩
def tokens : Finset (GSem nD τ sig × ℕ × Fin 15) := Finset.univ.map ⟨tokOf, tokOf_inj⟩

/-- The launch's element of both resources. -/
def u₀ : UU := (initOf (Pipeline.cells cfgs cellOf_inj) (Pipeline.launchToks cfgs cellOf_inj), initOf cells tokens)

/-- The tokens of device `c`'s own semaphores, -/
def toks (c : Dev nD) : sProp 𝕄 :=
  iprop((bigSep Finset.univ fun j : Fin 15 => dutyTok EM (cell (c, gate)) 0 j) ∗ (bigSep Finset.univ fun j : Fin 15 => dutyTok EM (cell (c, out j)) 0 0)
    ∗ bigSep Finset.univ fun j : Fin 15 => dutyTok EM (cell (c, inn j)) 0 0)
/-- and of the duties it pays. -/
def payToks (c : Dev nD) : sProp 𝕄 :=
  iprop((bigSep Finset.univ fun j : Fin 15 => dutyTok EM (cell (dn j c, gate)) 0 j) ∗ (bigSep Finset.univ fun j : Fin 15 => dutyTok EM (cell (c, out j)) 0 0)
    ∗ bigSep Finset.univ fun j : Fin 15 => dutyTok EM (cell (up j c, inn j)) 0 0)

/-- A device's places at its channels. -/
def places (c : Dev nD) : sProp 𝕄 := bigSep Finset.univ fun k : Chan => atPos EM (cell (c, k)) 0 ∅ 0

/-- What the launch element gives device `c`, -/
def G (c : Dev nD) : sProp 𝕄 :=
  iprop((bigSep Finset.univ fun k : Chan => roundState EM (rd (sent m)) (cell (c, k)) 0) ∗ places c
    ∗ (bigSep Finset.univ fun k : Chan => reached EM (cell (c, k)) 0) ∗ toks c)

/-- the invariants and marks all devices read, -/
def shared (K : Dev nD × Chan → ℕ) : sProp 𝕄 :=
  iprop((bigSep Finset.univ fun ck : Dev nD × Chan => cellInv EM (rd (sent m)) (K ck) (cell ck)) ∗ bigSep Finset.univ fun ck : Dev nD × Chan => reached EM (cell ck) 0)
instance shared_persistent (K : Dev nD × Chan → ℕ) : BI.Persistent (shared m K) := by unfold shared; infer_instance

/-- and what device `c` starts from once the semaphores of all devices are shared. -/
def G' (c : Dev nD) : sProp 𝕄 := iprop(∃ K, shared m K ∗ places c ∗ payToks c)

omit [FloatOps F] in
theorem bigSep_tok (Φ : Dev nD × Fin 15 ⊕ Dev nD × (Fin 15 ⊕ Fin 15) → sProp 𝕄) : bigSep Finset.univ Φ
    = bigSep Finset.univ fun c : Dev nD => iprop((bigSep Finset.univ fun j : Fin 15 => Φ (.inl (c, j))) ∗ (bigSep Finset.univ fun j : Fin 15 => Φ (.inr (c, .inl j)))
        ∗ bigSep Finset.univ fun j : Fin 15 => Φ (.inr (c, .inr j))) := by
  rw [bigSep_sep', bigSep_sep', BI.bigSep_univ_sum, BI.bigSep_univ_prod, BI.bigSep_univ_prod]
  simp only [BI.bigSep_univ_sum]
  rw [BI.bigSep_sep]
  rfl

theorem fund_all : BI.own (EM (initOf cells tokens)) ⊢ (|==> bigSep Finset.univ (G m) : sProp 𝕄) := by
  have hX (Φ : GSem nD τ sig → sProp 𝕄) : bigSep cells Φ = bigSep Finset.univ fun c : Dev nD => bigSep Finset.univ fun k : Chan => Φ (cell (c, k)) := by
    unfold cells; rw [bigSep_map, BI.bigSep_univ_prod]; rfl
  have hT : bigSep tokens (fun x => (dutyTok EM x.1 x.2.1 x.2.2 : sProp 𝕄)) = bigSep Finset.univ fun c : Dev nD => toks c := by
    unfold tokens toks; rw [bigSep_map, bigSep_tok]; rfl
  iintro HX
  imod (Rounds.fund EM (rd (sent m)) cells tokens) $$ HX with ⟨Hst, Hr, Hat, Htok⟩
  imodintro
  ihave Hst := (Entails.of_eq (hX fun g => roundState EM (rd (sent m)) g 0)) $$ Hst
  ihave Hat := (Entails.of_eq (hX fun g => atPos EM g 0 ∅ 0)) $$ Hat
  ihave Hr := (Entails.of_eq (hX fun g => reached EM g 0)) $$ Hr
  ihave Htok := (Entails.of_eq hT) $$ Htok
  unfold G places; simp only [bigSep_sep']
  isplitl [Hst]; · iexact Hst
  isplitl [Hat]; · iexact Hat
  isplitl [Hr] <;> iassumption

omit [FloatOps F] in
/-- The barrier semaphore is the one semaphore that outlives the kernel. -/
theorem unscopedSems0_eq (c : Dev nD) : (unscopedSems0 c : sProp 𝕄) = semVal (cell (c, gate)) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (cell (c, out j)) 0) ∗ bigSep Finset.univ fun j => semVal (cell (c, inn j)) 0) := by
  unfold Pipeline.ownSems0; rw [BI.bigSep_univ_sum]; rfl

omit [FloatOps F] in
theorem bigSep_chan (Φ : Chan → sProp 𝕄) : bigSep Finset.univ Φ = iprop(Φ gate ∗ (bigSep Finset.univ fun j => Φ (out j)) ∗ bigSep Finset.univ fun j => Φ (inn j)) := by
  rw [BI.bigSep_univ_sum, BI.bigSep_univ_sum, BI.bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Chan => iprop(∃ κ : ℕ, cellInv EM (rd (sent m)) κ (cell (c, k))))
          ∗ places c ∗ (bigSep Finset.univ fun k : Chan => reached EM (cell (c, k)) 0) ∗ toks c) := by
  have hv : iprop(Pipeline.ownSems0 (Ix := Unit) (Name := ℕ) (U := UU) (Lvl := ℕ) (Val := Elt F) (τ := τ) osem c ∗ unscopedSems0 c)
      ⊢ (bigSep Finset.univ fun k : Chan => semVal (cell (c, k)) 0 : sProp 𝕄) := by
    rw [ownSems0_eq, unscopedSems0_eq, bigSep_chan]
    iintro ⟨Ho, Hb⟩
    isplitl [Hb] <;> iassumption
  have hinv : iprop((bigSep Finset.univ fun k : Chan => semVal (cell (c, k)) 0) ∗ bigSep Finset.univ fun k : Chan => roundState EM (rd (sent m)) (cell (c, k)) 0)
      ⊢ (|={Set.univ}=> bigSep Finset.univ fun k : Chan => iprop(∃ κ : ℕ, cellInv EM (rd (sent m)) κ (cell (c, k))) : sProp 𝕄) := by
    rw [← bigSep_sep']
    exact (bigSep_mono fun k _ => (Rounds.body_intro EM (rd (sent m)) (cell (c, k))).trans inv_alloc).trans (bigSep_fupd _ _)
  unfold G
  iintro ⟨Hos, Hus, Hst, Hrest⟩
  imod hinv $$ [Hos Hus Hst] with Hinv
  · isplitl [Hos Hus]
    · iapply hv
      isplitl [Hos] <;> iassumption
    iexact Hst
  imodintro
  isplitl [Hinv] <;> iassumption

omit [FloatOps F] in
/-- One family of tokens over devices and distances, dealt around by the distances. -/
theorem around (e : Fin 15 → Dev nD ≃ Dev nD) (Φ : Dev nD → Fin 15 → sProp 𝕄) :
    (bigSep Finset.univ fun c => bigSep Finset.univ fun j => Φ c j) = bigSep Finset.univ fun c : Dev nD => bigSep Finset.univ fun j : Fin 15 => Φ (e j c) j := by
  rw [Pipeline.bigSep_univ_comm, Pipeline.bigSep_univ_comm (fun (c : Dev nD) (j : Fin 15) => Φ (e j c) j)]
  exact bigSep_congr fun j _ => BI.bigSep_univ_equiv (e j) fun c => Φ c j

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', around (fun j => (turn j).symm) fun (c : Dev nD) (j : Fin 15) => dutyTok EM (cell (c, gate)) 0 j,
    around turn fun (c : Dev nD) (j : Fin 15) => dutyTok EM (cell (c, inn j)) 0 0]
  rfl

theorem deal_one (K : Dev nD × Chan → ℕ) (c : Dev nD) : (iprop(shared m K ∗ places c ∗ payToks c) : sProp 𝕄) ⊢ G' m c := by
  unfold G'
  iintro ⟨#HK, H⟩
  iexists K
  isplitr; · iexact HK
  iexact H

theorem regroup :
    (bigSep Finset.univ fun c : Dev nD => iprop((bigSep Finset.univ fun k : Chan => iprop(∃ κ : ℕ, cellInv EM (rd (sent m)) κ (cell (c, k))))
          ∗ places c ∗ (bigSep Finset.univ fun k : Chan => reached EM (cell (c, k)) 0) ∗ toks c) : sProp 𝕄)
      ⊢ bigSep Finset.univ (G' m) := by
  have hone (K : Dev nD × Chan → ℕ) : iprop(shared m K ∗ bigSep Finset.univ fun c : Dev nD => iprop(places c ∗ payToks c)) ⊢ bigSep Finset.univ (G' m) := by
    refine (sep_mono_left (BI.bigSep_of_persistent (Finset.univ : Finset (Dev nD)) (shared m K))).trans ?_
    rw [← bigSep_sep' Finset.univ (fun _ : Dev nD => shared m K) fun c : Dev nD => (iprop(places c ∗ payToks c) : sProp 𝕄)]
    exact bigSep_mono fun c _ => deal_one m K c
  rw [bigSep_sep', bigSep_sep', bigSep_sep', toks_around, ← BI.bigSep_univ_prod (fun ck : Dev nD × Chan => iprop(∃ κ : ℕ, cellInv EM (rd (sent m)) κ (cell ck))),
    ← BI.bigSep_univ_prod (fun ck : Dev nD × Chan => (reached EM (cell ck) 0 : sProp 𝕄))]
  iintro ⟨HI, Hat, #HR, Htok⟩
  ihave HK := (BI.bigSep_exists_pi Finset.univ (fun (ck : Dev nD × Chan) (κ : ℕ) => (cellInv EM (rd (sent m)) κ (cell ck) : sProp 𝕄))) $$ HI
  icases HK with ⟨%K, #HI⟩
  iapply (hone K)
  isplitr
  · unfold shared; isplitl; · iexact HI
    iexact HR
  rw [bigSep_sep']
  isplitl [Hat] <;> iassumption

/-- From every device's semaphores at zero to every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What the others owe device `c`: a unit at its barrier from each later device, a row from each earlier one. -/
def dueTo (c : Dev nD) : CellTallies nD τ sig Unit :=
  (∑ j : Fin 15, if Lo j c then tallyAt (cell (c, inn j)) () N else 0) + ∑ j : Fin 15, if Hi j c then tallyAt (cell (c, gate)) () 1 else 0

theorem due_sum : (∑ d, O₀ d) = ∑ d, dueTo d := by
  have h0 (D : Fin 15 → CellTallies nD τ sig Unit) : rest D 0 = ∑ j, D j := Finset.sum_congr rfl fun i _ => if_pos (Nat.zero_le _)
  unfold O₀ dueTo
  simp only [h0]
  rw [Finset.sum_add_distrib, Finset.sum_add_distrib, Finset.sum_comm, Finset.sum_comm (f := fun d j => sigDue d j),
    Finset.sum_comm (f := fun d j => if Lo j d then tallyAt (cell (d, inn j)) () N else 0), Finset.sum_comm (f := fun d j => if Hi j d then tallyAt (cell (d, gate)) () 1 else 0)]
  congr 1
  · refine Finset.sum_congr rfl fun j _ => ?_
    rw [← Equiv.sum_comp (turn j) fun d => if Lo j d then (tallyAt (cell (d, inn j)) () N : CellTallies nD τ sig Unit) else 0]
    exact Finset.sum_congr rfl fun d _ => if_congr lo_up.symm rfl rfl
  · refine Finset.sum_congr rfl fun j _ => ?_
    rw [← Equiv.sum_comp (turn j).symm fun d => if Hi j d then (tallyAt (cell (d, gate)) () 1 : CellTallies nD τ sig Unit) else 0]
    exact Finset.sum_congr rfl fun d _ => if_congr hi_dn.symm rfl rfl

theorem due_core (d : Dev nD) (g : GSem nD τ sig) (h : dueTo d g ≠ 0) : g.1 = (d.tc : Thread nD τ) := by
  by_contra hne
  refine h ?_
  have hz (k : Chan) (n : ℕ) : (tallyAt (cell (d, k)) () n : CellTallies nD τ sig Unit) g = 0 := tallyAt_ne_cell (fun he => hne (congrArg Prod.fst he)) () n
  unfold dueTo
  rw [Pi.add_apply, Finset.sum_apply, Finset.sum_apply]
  rw [Finset.sum_eq_zero, Finset.sum_eq_zero, add_zero]
  · intro j _; split
    · exact hz _ _
    · rfl
  · intro j _; split
    · exact hz _ _
    · rfl

/-- Its credit from the launch: the units its barrier waits spend, the rows' its landing waits spend. -/
theorem creds (c : Dev nD) : (Pipeline.launchCred O₀ c : sProp 𝕄)
    = iprop((bigSep Finset.univ fun j : Fin 15 => if Lo j c then cred (tallyAt (cell (c, inn j)) () N) else iprop(emp)) ∗ bigSep Finset.univ (gateA (F := F) c)) := by
  have hif (T : Prop) [Decidable T] (t : CellTallies nD τ sig Unit) : (cred (if T then t else 0) : sProp 𝕄) = if T then cred t else iprop(emp) := by
    split
    · rfl
    · exact cred_zero
  rw [Pipeline.launchCred_of_sum O₀ dueTo due_sum due_core c]
  unfold dueTo gateA
  rw [BI.Entails.antisymm (cred_add _ _).1 (cred_add _ _).2, Pipeline.cred_finsetSum, Pipeline.cred_finsetSum]
  simp only [hif]

end Cert.CumProd

end
-- ==== Proof.Values.lean ====
/-
# What each device computes

The kernel's payloads over the extended reals, as products down the columns of the blocks.
-/
module

public import proofs.«01_k».proof.Proof.Columns
public import proofs.«01_k».proof.Proof.Deal

@[expose] public section

noncomputable section

namespace Cert.CumProd

open Cert.KernelIdeal Cert.KernelIdeal.Gen
open Idealize.ShloMosaic
open Finset

/-- Widening leaves a block's entries as they are. -/
theorem pay1_eq (x : Vec Ideal S256x256 .bf16) : k0_pay1 x = x :=
  funext fun i => congrFun (shapeCast_self x shapeCasts_S256x256_S256x256) i

/-- The outgoing row holds the products of the block's columns. -/
theorem pay3_eq (x : Vec Ideal S256x256 .bf16) (j : Fin 256) : k0_pay3 (k0_pay2 x) (ix2 0 j) = colProd (n := 256) x j := by
  unfold k0_pay3 k0_pay2
  dsimp only
  rw [shapeCast_shapeCast, pay1_eq]
  exact (colProd_row _ j).symm.trans <|
    (colProd_half 1 rfl _ _ _ j).trans <| (colProd_half 2 rfl _ _ _ j).trans <| (colProd_half 4 rfl _ _ _ j).trans <|
    (colProd_half 8 rfl _ _ _ j).trans <| (colProd_half 16 rfl _ _ _ j).trans <| (colProd_half 32 rfl _ _ _ j).trans <|
    (colProd_half 64 rfl _ _ _ j).trans (colProd_half 128 rfl _ _ _ j)

/-- The doubling scan holds the products of the columns so far. -/
theorem pay4_eq (v : FVec Ideal S256x256 .f32) {i : ℕ} (hi : i < 256) (j : Fin 256) :
    entry (n := 256) (k0_pay4 v) i j = ∏ t ∈ range (i + 1), entry (n := 256) v t j := by
  refine window_full ?_ hi j
  unfold k0_pay4
  exact window_double 128 128 rfl (window_double 64 192 rfl (window_double 32 224 rfl (window_double 16 240 rfl (window_double 8 248 rfl
    (window_double 4 252 rfl (window_double 2 254 rfl (window_double 1 255 rfl (window_one v) _ _) _ _) _ _) _ _) _ _) _ _) _ _) _ _

/-- The masked product of the landed rows is the product of the rows below the device's place. -/
theorem pay6_eq (c : Dev nD) (s : FVec Ideal S256x256 .f32) (l : Vec Ideal S15x256 .f32) {i : ℕ} (hi : i < 256) (j : Fin 256) :
    entry (n := 256) (k0_pay6 s l (k0_pay5 (myW c)) (Scalar.ofBits .f32 0x3F800000#32)) i j
      = entry (n := 256) s i j * ∏ r ∈ range c.val, entry (n := 15) l r j := by
  unfold k0_pay6
  dsimp only
  rw [entry_mul _ _ hi]
  congr 1
  rw [entry_of_lt _ hi, broadcastTo_apply _ _ _ (ix2 (0 : Fin 1) j) (fun a => by match a with | ⟨0, _⟩ => rfl | ⟨1, _⟩ => rfl)]
  refine (colProd_row _ j).symm.trans <| (colProd_half 1 rfl _ _ _ j).trans <| (colProd_half 2 rfl _ _ _ j).trans <|
    (colProd_half 4 rfl _ _ _ j).trans <| (colProd_half 8 rfl _ _ _ j).trans ?_
  unfold colProd
  have hc : c.val + (16 - c.val) = 16 := by have := c.isLt; simp only [nD] at this; omega
  have hn : ∀ f : ℕ → EReal, ∏ r ∈ range 16, f r = (∏ r ∈ range c.val, f r) * ∏ r ∈ range (16 - c.val), f (c.val + r) := fun f => by
    conv_lhs => rw [← hc]
    exact prod_range_add f _ _
  have hm : ∀ r (hr : r < 15), k0_pay5 (myW c) (ix2 (⟨r, hr⟩ : Fin 15) j) = IntOp.cmpi .slt (BitVec.ofNat 32 r) (myW c) := fun r hr => by
    show IntOp.cmpi .slt (BitVec.ofNat 32 (0 * 15 + r)) (myW c) = _
    rw [Nat.zero_mul, Nat.zero_add]
  rw [hn]
  refine (congrArg₂ (· * ·) (prod_congr rfl fun r hr => ?_) (prod_eq_one fun r hr => ?_)).trans (mul_one _)
  · have hr' : r < c.val := mem_range.mp hr
    have h15 : r < 15 := by have := c.isLt; simp only [nD] at this; omega
    rw [entry_stack _ _ _ (show r < 16 by omega) rfl, if_pos h15, entry_of_lt _ h15, entry_of_lt _ h15]
    exact if_pos ((hm r h15).trans ((mask_iff ⟨r, h15⟩ c).mpr hr'))
  · have hr' : c.val + r < 16 := by have := mem_range.mp hr; omega
    rw [entry_stack _ _ _ hr' rfl]
    by_cases h15 : c.val + r < 15
    · rw [if_pos h15, entry_of_lt _ h15]
      refine (if_neg fun e => ?_).trans Ideal.ofBits_one_f32
      have : c.val + r < c.val := (mask_iff ⟨c.val + r, h15⟩ c).mp ((hm _ h15).symm.trans e)
      omega
    · rw [if_neg h15]; exact entry_one _ j

/-- What a device stores: the product of its own rows so far, times the products of the blocks before it. -/
theorem result_eq (P : Dev nD → SendBuf Ideal) (c : Dev nD) (x : Vec Ideal S256x256 .bf16) (f : ℕ → EReal) (j : Fin 256)
    (hf : ∀ d : Dev nD, P d (ix2 0 j) = ∏ t ∈ range 256, f (256 * d.val + t)) (hx : ∀ t < 256, entry (n := 256) x t j = f (256 * c.val + t))
    {i : ℕ} (hi : i < 256) : entry (n := 256) (result P c x) i j = ∏ t ∈ range (256 * c.val + i + 1), f t := by
  unfold result
  refine (pay6_eq c _ _ hi j).trans ?_
  rw [pay4_eq _ hi, pay1_eq, Nat.add_assoc, prod_range_add f (256 * c.val) (i + 1), prod_blocks, mul_comm]
  congr 1
  · rw [← prod_range_reflect]
    refine prod_congr rfl fun r hr => ?_
    have hr' : r < c.val := mem_range.mp hr
    have hc := c.isLt
    simp only [nD] at hc
    have h15 : c.val - 1 - r < 15 := by omega
    have hd : (dn ⟨c.val - 1 - r, h15⟩ c).val = r := by simp only [dn]; omega
    rw [entry_of_lt _ h15]
    refine (show landed P c (ix2 ⟨c.val - 1 - r, h15⟩ j) = P (dn ⟨c.val - 1 - r, h15⟩ c) (ix2 0 j) from ?_).trans ((hf _).trans ?_)
    · unfold landed
      refine congrArg _ (funext fun a => Fin.ext ?_)
      match a with
      | ⟨0, _⟩ => rfl
      | ⟨1, _⟩ => rfl
    · rw [hd]
  · exact prod_congr rfl fun t ht => hx t (lt_of_lt_of_le (mem_range.mp ht) hi)

end Cert.CumProd

end
-- ==== Proof.RefRun.lean ====
/-
# The reference's frame
-/
module

public import proofs.«01_k».proof.Defs
public import proofs.«01_k».proof.Proof.Gen.ReferenceIdeal.Run

@[expose] public section

noncomputable section

namespace Cert.CumProd.Ref

open Idealize.ShloMosaic Idealize.SL.Sem Cert.ReferenceIdeal

/-- The reference ends, its argument as it was; it has no semaphore. -/
theorem frame_reference : Cert.quiescent_ReferenceIdeal := fun m ρ _ =>
  (θ_run Cert.ReferenceIdeal.defs _ _).mono (fun _ h => ⟨fun c => (h c).2, funext fun g => by
    rcases g with ⟨_, s⟩
    rcases s with s | s
    · exact s.elim0
    · exact s.elim0⟩) (Cert.ReferenceIdeal.Value.run (F := Ideal) m ρ)

end Cert.CumProd.Ref

end
-- ==== Proof.RefValue.lean ====
/-
# What the reference computes

The loop over the extended reals: after `k` trips its first `k` rows hold the products of the columns so far.
-/
module

public import proofs.«01_k».proof.Proof.Columns
public import proofs.«01_k».proof.Proof.RefRun

@[expose] public section

noncomputable section

namespace Cert.CumProd.Ref

open Cert.ReferenceIdeal Cert.ReferenceIdeal.Gen Cert.ReferenceIdeal.Value
open Idealize.ShloMosaic Idealize.ShloMosaic.TcCoe Idealize.ShloMosaic.Tactic Idealize.ShloMosaic.StableHlo
open Finset

section Ops
variable {k : ℕ} (hk : k < 4096) (start : Fin 2 → Int) (h0 : start 0 = (k : Int)) (h1 : start 1 = 0)
include hk h0 h1

/-- The row read at the counter. -/
theorem row_read (X : FVec Ideal S4096x256 .f32) (hf : S4096x256.Slices (fun _ => 0) S1x256) (hs : S1x256.ShapeCasts S256) (j : Fin 256) :
    shapeCast S256 (Host.dynamicSlice S1x256 X start hf) hs (ix1 j) = entry (n := 4096) X k j := by
  refine (shapeCast_dropUnit_apply ![256] _ hs (ix1 j)).trans ?_
  rw [entry_of_lt _ hk, Host.dynamicSlice_apply]
  refine congrArg X (funext fun a => Fin.ext ?_)
  match a with
  | ⟨0, _⟩ =>
    refine (congrArg (· + 0) (Host.clampedStart_of_le hf.1 start 0 k h0 ?_)).trans (Nat.add_zero k)
    show k + 1 ≤ 4096
    omega
  | ⟨1, _⟩ => exact (congrArg (· + j.val) (Host.clampedStart_of_le hf.1 start 1 0 h1 (show 0 + 256 ≤ 256 by omega))).trans (Nat.zero_add _)

/-- The array with the row at the counter replaced. -/
theorem row_write (Y : FVec Ideal S4096x256 .f32) (u : FVec Ideal S256 .f32) (hb : S256.BroadcastsInDim S1x256 ![1])
    (hf : S4096x256.Slices (fun _ => 0) S1x256) {i : ℕ} (hi : i < 4096) (j : Fin 256) :
    entry (n := 4096) (Host.dynamicUpdateSlice Y (broadcastInDim S1x256 ![1] hb u) start hf) i j
      = if i = k then u (ix1 j) else entry (n := 4096) Y i j := by
  have c0 : Host.clampedStart S4096x256 S1x256 hf.1 start 0 = k := Host.clampedStart_of_le hf.1 start 0 k h0 (show k + 1 ≤ 4096 by omega)
  have c1 : Host.clampedStart S4096x256 S1x256 hf.1 start 1 = 0 := Host.clampedStart_of_le hf.1 start 1 0 h1 (show 0 + 256 ≤ 256 by omega)
  rw [entry_of_lt _ hi, Host.dynamicUpdateSlice_apply]
  by_cases e : i = k
  · rw [if_pos e]
    refine (dif_pos fun a => ?_).trans ?_
    · match a with
      | ⟨0, _⟩ =>
        refine ⟨c0.trans_le (Nat.le_of_eq e.symm), ?_⟩
        show i < Host.clampedStart S4096x256 S1x256 hf.1 start 0 + 1
        omega
      | ⟨1, _⟩ =>
        refine ⟨c1.trans_le (Nat.zero_le _), ?_⟩
        show j.val < Host.clampedStart S4096x256 S1x256 hf.1 start 1 + 256
        have := j.isLt
        omega
    · refine broadcastInDim_apply _ hb u _ (ix1 j) fun a => ?_
      match a with
      | ⟨0, _⟩ => exact (show j.val = j.val - Host.clampedStart S4096x256 S1x256 hf.1 start 1 by omega)
  · rw [if_neg e, entry_of_lt _ hi]
    refine dif_neg fun hin => e ?_
    have h := hin 0
    have hl : Host.clampedStart S4096x256 S1x256 hf.1 start 0 ≤ i := h.1
    have hr : i < Host.clampedStart S4096x256 S1x256 hf.1 start 0 + 1 := h.2
    omega

end Ops

/-- What the carried buffers hold before trip `k`. -/
structure Inv (X : FVec Ideal S4096x256 .f32) (k : ℕ) (V : Valuation τ sig (Elt Ideal)) : Prop where
  input : V (Proc.devRef .tc main_v3_0) = X
  counter : V (Proc.devRef .tc main_v3_1) = fun _ => BitVec.ofNat 32 k
  carry : ∀ j : Fin 256, (V (Proc.devRef .tc main_v3_2) : FVec Ideal S256 .f32) (ix1 j) = ∏ t ∈ range k, entry (n := 4096) X t j
  rows : ∀ i < k, ∀ j : Fin 256, entry (n := 4096) (V (Proc.devRef .tc main_v3_3)) i j = ∏ t ∈ range (i + 1), entry (n := 4096) X t j

/-- Where a trip reads and writes: the row the counter names, from column zero. -/
abbrev starts (V : Valuation τ sig (Elt Ideal)) : Fin 2 → Int := fun k =>
  (((![V (Proc.devRef .tc main_v3_1), constantI S_ 32 0#32] : Fin 2 → (⟨S_, .i32⟩ : BufTy).Contents (Elt Ideal))) k (Shape.Idx.first h_S_)).toInt

/-- One trip takes one more row. -/
theorem inv_step {X : FVec Ideal S4096x256 .f32} {k : ℕ} (hk : k < 4096) {V : Valuation τ sig (Elt Ideal)} (h : Inv X k V) :
    Inv X (k + 1) (STEP V) := by
  have hs0 : starts V 0 = (k : Int) := by
    show ((V (Proc.devRef .tc main_v3_1) : (⟨S_, .i32⟩ : BufTy).Contents (Elt Ideal)) (Shape.Idx.first h_S_)).toInt = _
    rw [h.counter]
    show (BitVec.ofNat 32 k).toInt = (k : Int)
    have e : (BitVec.ofNat 32 k).toNat = k := by rw [BitVec.toNat_ofNat]; omega
    rw [BitVec.toInt_eq_toNat_of_lt (by omega), e]
  have hs1 : starts V 1 = 0 := rfl
  have hr : ∀ j : Fin 256, (res_main_while0b_v5 V : FVec Ideal S256 .f32) (ix1 j) = ∏ t ∈ range (k + 1), entry (n := 4096) X t j := fun j => by
    rw [prod_range_succ, ← h.carry j, ← row_read hk (starts V) hs0 hs1 X sliceFits_S4096x256_S1x256 shapeCasts_S1x256_S256 j, ← h.input]
    rfl
  refine ⟨(STEP_main_v3_0 V).trans h.input, (STEP_main_v3_1 V).trans ?_, fun j => ?_, fun i hi j => ?_⟩
  · unfold step_main_v3_1
    rw [h.counter]
    funext _
    exact (BitVec.ofNat_add k 1).symm
  · rw [STEP_main_v3_2]; exact hr j
  · rw [STEP_main_v3_3]
    refine (row_write hk (starts V) hs0 hs1 (V (Proc.devRef .tc main_v3_3)) (res_main_while0b_v5 V) bcast_S256_S1x256_1 updateFits_S4096x256_S1x256
      (show i < 4096 by omega) j).trans ?_
    by_cases e : i = k
    · rw [if_pos e, hr j, e]
    · rw [if_neg e, h.rows i (by omega) j]

/-- After `k` trips. -/
theorem inv_iterate {X : FVec Ideal S4096x256 .f32} {V : Valuation τ sig (Elt Ideal)} (h : Inv X 0 V) : ∀ k ≤ 4096, Inv X k (STEP^[k] V)
  | 0, _ => h
  | k + 1, hk => by
    rw [Function.iterate_succ_apply']
    exact inv_step hk (inv_iterate h k (Nat.le_of_succ_le hk))

variable (m : (ℓ : Loc nD τ sig) → Buf (Elt Ideal) ℓ)

/-- The loop's entry: the argument widened, the counter at zero, the carry at one. -/
theorem inv_entry (c : Dev nD) : Inv (m ((c.tc : Thread nD τ).loc main_arg0)) 0 (entryContents preI m c) := by
  refine ⟨?_, ctr_entry m c, fun j => ?_, fun i hi => absurd hi (Nat.not_lt_zero i)⟩
  · simp only [entryContents, afterL_cons, afterL_nil]
    after_reads_simp
    rfl
  · have e : entryContents preI m c (Proc.devRef .tc main_v3_2)
        = broadcastInDim S256 ![] bcast_S_S256 (constant (F := Ideal) S_ .f32 0x3F800000#32) := by
      simp only [entryContents, afterL_cons, afterL_nil]
      after_reads_simp
      rfl
    rw [prod_range_zero, e]
    exact Ideal.ofBits_one_f32

/-- The reference's result: the products of the columns so far. -/
theorem value_eq (c : Dev nD) {i : ℕ} (hi : i < 4096) (j : Fin 256) :
    entry (n := 4096) ((STEP^[4096] (entryContents preI m c)) (Proc.devRef .tc main_v3_3)) i j
      = ∏ t ∈ range (i + 1), entry (n := 4096) (m ((c.tc : Thread nD τ).loc main_arg0)) t j :=
  (inv_iterate (inv_entry m c) 4096 (Nat.le_refl _)).rows i hi j

end Cert.CumProd.Ref

end
-- ==== Proof.Body.lean ====
/-
# The body of one device

The loops one after the other: what a device holds between them, how the end of one is the start of the next, and the
whole body.
-/
module

public import proofs.«01_k».proof.Proof.Phases
public import proofs.«01_k».proof.Proof.Gates
public import proofs.«01_k».proof.Proof.SendsA
public import proofs.«01_k».proof.Proof.SendsB
public import proofs.«01_k».proof.Proof.Waits

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × Chan → ℕ) (P : Dev nD → SendBuf F) (c : Dev nD)

variable {X : Buf (Elt F) ((xM : Memref sig .tc .vmem S256x256 .bf16).view.loc (c : Thread nD τ))} {g0 : Buf (Elt F) ((oM : Memref sig .tc .vmem S256x256 .f32).view.loc (c : Thread nD τ))}
variable {f0 : SendBuf F}

set_option maxHeartbeats 4000000 in
/-- All of the body but its last wait. -/
theorem run_part17 (hP : P c = k0_pay3 (k0_pay2 X)) {Kt : (Σ' (_ : BitVec 32), BitVec 32) → sProp 𝕄}
    (h : ∀ v, backPhase K P c iprop(oP c (result P c X) ∗ lP c v ∗ xP c X ∗ asideBack c) 14 ⊢ Kt ⟨myW c, 15#32⟩) :
    sigPhase K P c iprop(xP c X ∗ sP c f0 ∗ oP c g0 ∗ aside c) 0 ⊢ wpB c (k0_part17 xM (Memref.isWhole_whole _) oM (Memref.isWhole_whole _) sM (Memref.isWhole_whole _) lM (Memref.isWhole_whole _) cc0_scratch2 cc0_scratch3) Kt := by
  rw [k0_part17_eq_skeleton]; unfold k0_part17_skel
  refine bind_step c ?_
  refine run_part1 K P c ?_
  dsimp only
  refine bind_step c ?_
  refine run_part2 K P c ?_
  refine to_gate K P c ?_
  dsimp only
  refine bind_step c ?_
  refine run_part3 K P c ?_
  rw [← hP]
  refine bind_step c ?_
  refine run_part4 K P c ?_
  dsimp only
  refine bind_step c ?_
  refine run_part5 K P c (fun hk => to_send K P c hk) ?_
  rintro ⟨a, b, d⟩
  dsimp only
  refine bind_step c ?_
  refine run_part6 K P c ?_
  rintro ⟨a, b, d⟩
  dsimp only
  refine bind_step c ?_
  refine run_part7 K P c ?_
  rintro ⟨a, b⟩
  dsimp only
  refine bind_step c ?_
  refine run_part8 K P c ?_
  rintro ⟨a, b, d, e⟩
  dsimp only
  refine bind_step c ?_
  refine run_part9 K P c ?_
  rintro ⟨a, b, d, e⟩
  dsimp only
  refine bind_step c ?_
  refine run_part10 K P c ?_
  rintro ⟨a, b, d, e, f, g⟩
  dsimp only
  refine bind_step c ?_
  refine run_part11 K P c ?_
  rintro ⟨a, b, d, e, f, g⟩
  dsimp only
  refine bind_step c ?_
  refine run_part12 K P c ?_
  intro a
  refine to_recv K P c ?_
  dsimp only
  refine bind_step c ?_
  refine run_part13 K P c ?_
  refine bind_step c ?_
  refine run_part14 K P c (fun hk => to_back K P c hk) ?_
  intro v hv
  refine phase_rearrange K P c swap_front ?_
  dsimp only
  refine bind_step c ?_
  refine run_part15 K P c ?_
  rw [result_landed P c _ _ hv]
  refine bind_step c ?_
  refine run_part16 K P c ?_
  refine back_step K P c 9 rfl (p := fun c => waitW 10#32 c = 1#1) (waitW_iff 9) (q := outS 9) rfl (src := rowM 9) (dst := sM) rfl ?_
  refine back_step K P c 10 rfl (p := fun c => waitW 11#32 c = 1#1) (waitW_iff 10) (q := outS 10) rfl (src := rowM 10) (dst := sM) rfl ?_
  refine back_step K P c 11 rfl (p := fun c => waitW 12#32 c = 1#1) (waitW_iff 11) (q := outS 11) rfl (src := rowM 11) (dst := sM) rfl ?_
  refine back_step K P c 12 rfl (p := fun c => waitW 13#32 c = 1#1) (waitW_iff 12) (q := outS 12) rfl (src := rowM 12) (dst := sM) rfl ?_
  refine back_step K P c 13 rfl (p := fun c => waitW 14#32 c = 1#1) (waitW_iff 13) (q := outS 13) rfl (src := rowM 13) (dst := sM) rfl ?_
  exact ret_step c (h v)

set_option maxHeartbeats 4000000 in
/-- The body of one device, from its entry to its end. -/
theorem sound_body (hP : P c = k0_pay3 (k0_pay2 X)) :
    sigPhase K P c iprop(xP c X ∗ sP c f0 ∗ oP c g0 ∗ aside c) 0
      ⊢ wpB c (cc0_body xM (Memref.isWhole_whole _) oM (Memref.isWhole_whole _) sM (Memref.isWhole_whole _) lM (Memref.isWhole_whole _) cc0_scratch2 cc0_scratch3) (fun _ => bodyEnd P c X) := by
  rw [cc0_body_eq_skeleton]; unfold cc0_body_skel
  refine bind_step c ?_
  refine run_part17 K P c hP ?_
  intro v
  dsimp only
  refine back_step K P c 14 rfl (p := fun c => waitW 15#32 c = 1#1) (waitW_iff 14) (q := outS 14) rfl (src := rowM 14) (dst := sM) rfl ?_
  exact ret_step c (body_end K P c)

end Cert.CumProd

end
-- ==== Proof.Launch.lean ====
/-
# The kernel run on the sixteen devices
-/
module

public import proofs.«01_k».proof.Proof.Body
public import proofs.«01_k».proof.Proof.Deal
public import proofs.«01_k».proof.Proof.Gen.KernelIdeal.Launch
public import Idealize.ShloMosaic.Lib.Pipeline.Launch
public import Idealize.ShloMosaic.Lib.Pipeline.CollectiveSegs
public import Idealize.ShloMosaic.Lib.Pipeline.Kit

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The kernel's one grid point -/

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The memory at the launch. -/
abbrev s₀ : MemSt nD τ sig (Elt F) := ⟨m, fun _ => 0, ρ⟩

/-- What device `c` starts from: the shared marks, its places and tokens, its credit. -/
def start (c : Dev nD) : sProp 𝕄 :=
  iprop((∃ K, records K (sent m) ∗ places c ∗ payToks c) ∗ (bigSep Finset.univ fun j : Fin 15 => if Lo j c then cred (tallyAt (cell (c, inn j)) () N) else iprop(emp))
    ∗ bigSep Finset.univ (gateA (F := F) c))

/-- Before the point: that and its two scratch buffers; -/
def Φ₀ (c : Dev nD) : sProp 𝕄 := iprop(start m c ∗ (∃ f, sP c f) ∗ ∃ v, lP c v)
/-- after it: the scratch buffers and its semaphores at zero. -/
def Φ₁ (c : Dev nD) : sProp 𝕄 :=
  iprop((∃ f : SendBuf F, sP c f) ∗ (∃ v : LandBuf F, lP c v) ∗ semVal (cell (c, gate)) 0 ∗ (bigSep Finset.univ fun j => semVal (cell (c, inn j)) 0)
    ∗ bigSep Finset.univ fun j => semVal (cell (c, out j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem two_windows (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

/-- The body's first loop starts from what the launch deals. -/
theorem enter (c : Dev nD) (K : Dev nD × Chan → ℕ) (f : SendBuf F) (v : LandBuf F) (W : Waits sig Unit)
    (X : Buf (Elt F) ((xM : Memref sig .tc .vmem S256x256 .bf16).view.loc (c : Thread nD τ))) (g : Buf (Elt F) ((oM : Memref sig .tc .vmem S256x256 .f32).view.loc (c : Thread nD τ))) :
    iprop((records K (sent m) ∗ places c ∗ payToks c)
        ∗ ((bigSep Finset.univ fun j : Fin 15 => if Lo j c then cred (tallyAt (cell (c, inn j)) () N) else iprop(emp)) ∗ bigSep Finset.univ (gateA (F := F) c))
        ∗ sP c f ∗ lP c v ∗ owes (c : Thread nD τ) (O₀ c) W ∗ xP c X ∗ oP c g)
      ⊢ sigPhase K (sent m) c iprop(xP c X ∗ sP c f ∗ oP c g ∗ aside c) 0 := by
  unfold sigPhase phase places payToks aside owesAny
  have hsig : iprop((bigSep Finset.univ fun j : Fin 15 => dutyTok EM (cell (dn j c, gate)) 0 j) ∗ lP c v) ⊢ run (sigA (F := F) c) (sigB c) 0 := by
    refine BIBase.Entails.trans ?_ (run_start _ _)
    unfold sigA
    rw [bigSep_sep']
    exact sep_mono_right (rows_split c v)
  have hsend : iprop((bigSep Finset.univ fun j : Fin 15 => dutyTok EM (cell (c, out j)) 0 0) ∗ bigSep Finset.univ fun j : Fin 15 => dutyTok EM (cell (up j c, inn j)) 0 0)
      ⊢ bigSep Finset.univ (sendTok (F := F) c) := by
    unfold sendTok; rw [bigSep_sep']
  have hrecv : iprop((bigSep Finset.univ fun j : Fin 15 => if Lo j c then cred (tallyAt (cell (c, inn j)) () N) else iprop(emp)) ∗ bigSep Finset.univ fun j : Fin 15 => atPos EM (cell (c, inn j)) 0 ∅ 0)
      ⊢ bigSep Finset.univ (recvPre (F := F) c) := by
    unfold recvPre; rw [bigSep_sep']
  rw [bigSep_chan]
  iintro ⟨⟨#Hr, ⟨Hg, Ho, Hi⟩, Ht1, Ht2, Ht3⟩, ⟨Hcr, Hga⟩, Hs, Hl, HO, Hx, Hout⟩
  isplitr; · iexact Hr
  isplitl [HO]; · iexists W; iexact HO
  isplitr; · iempintro
  isplitl [Hx Hs Hout Hg Ho Hi Ht2 Ht3 Hcr Hga]
  · isplitl [Hx]; · iexact Hx
    isplitl [Hs]; · iexact Hs
    isplitl [Hout]; · iexact Hout
    isplitl [Hg]; · iexact Hg
    isplitl [Hga]; · iexact Hga
    isplitl [Ht2 Ht3]
    · iapply hsend
      isplitl [Ht2] <;> iassumption
    isplitl [Hcr Hi]
    · iapply hrecv
      isplitl [Hcr] <;> iassumption
    unfold backPre; iexact Ho
  iapply hsig
  isplitl [Ht1] <;> iassumption

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

/-- The body's end is what the launch asks of it. -/
theorem leave (c : Dev nD) : bodyEnd (sent m) c (xstg m c) ⊢ bodyPost m ρ c := by
  unfold bodyEnd bodyPost Φ₁ owesAny Dat.owesAt Pipeline.owesWithin
  rw [show (dats m ρ 0 c).owed t₀.succ = 0 from rfl]
  iintro ⟨⟨%W, HO⟩, Hout, Hx, Hs, Hl, Hg, Hi, Ho⟩
  isplitl [Hs Hl Hg Hi Ho]
  · isplitl [Hs]; · iexists _; iexact Hs
    isplitl [Hl]; · iexact Hl
    isplitl [Hg]; · iexact Hg
    isplitl [Hi] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxHeartbeats 4000000 in
set_option maxRecDepth 4000 in
/-- The body keeps the launch's contract on device `c`. -/
theorem body_obligation (c : Dev nD) : BodyObligation (dats (F := F) m ρ 0 c) (defs₀ (F := F)) 𝒱₀ () Set.univ := fun t => by
  rw [fin_N t]
  rw [two_windows, two_windows]
  simp only [owns_whole_eq]
  show bodyPre m ρ c ⊢ wpB c (cc0_body xM (Memref.isWhole_whole _) oM (Memref.isWhole_whole _) sM (Memref.isWhole_whole _) lM (Memref.isWhole_whole _) cc0_scratch2 cc0_scratch3)
    (fun _ => bodyPost m ρ c)
  unfold bodyPre Φ₀ start Dat.owesAt Pipeline.owesWithin
  rw [show (dats m ρ 0 c).owed t₀.castSucc = O₀ c from rfl]
  iintro ⟨⟨⟨⟨%K, HK⟩, Hc⟩, ⟨%f, Hs⟩, ⟨%v, Hl⟩⟩, ⟨%W, %hW, HO⟩, ⟨%d0, %g0, %hg0, Hx⟩, ⟨%d1, %g1, %hg1, Hout⟩⟩
  have hx : g0 = xstg m c := by rw [hg0]; unfold Dat.before; rw [if_pos (fetch_0 t₀)]; rfl
  subst hx
  iapply (show sigPhase K (sent m) c iprop(xP c (xstg m c) ∗ sP c f ∗ oP c g1 ∗ aside c) 0 ⊢ wpB c _ (fun _ => bodyPost m ρ c)
    from (sound_body K (sent m) c rfl).trans (wp_mono _ _ _ fun _ => leave m ρ c))
  iapply (enter m c K f v W (xstg m c) g1)
  isplitl [HK]; · iexact HK
  isplitl [Hc]; · iexact Hc
  isplitl [Hs]; · iexact Hs
  isplitl [Hl]; · iexact Hl
  isplitl [HO]; · iexact HO
  isplitl [Hx] <;> iassumption

/-! ## The launch -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [creds]
  unfold start G' shared records
  iintro ⟨-, #Hlev, Hcr, -, ⟨%K, ⟨#HI, #HR⟩, Hpl⟩⟩
  imodintro
  isplitl
  · isplitl [Hpl]
    · iexists K
      isplitr
      · isplitr; · iexact HI
        isplitr; · iexact HR
        iexact Hlev
      iexact Hpl
    iexact Hcr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hs, Hl, Hg, Hi, Ho⟩
  isplitl [Hg]; · iexact Hg
  isplitl [Hi Ho]
  · isplitl [Ho] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every device's arrays after the run: the block of `x` it had, and the block its body stores. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- For any float values, from any memory with the semaphores at zero: every fair run of the kernel on the sixteen devices
    ends, each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run leaves each device's block of `x` as it was. -/
theorem arr_x (c : Dev nD) : (dats m ρ 0 c).arrAt (0 : Fin 2) cfg0.N = m (win0_0.arr.view.loc (c : Thread nD τ)) :=
  (dats (F := F) m ρ 0 c).arrAt_in (0 : Fin 2) rfl _

end Cert.CumProd

end
-- ==== Proof.Frames.lean ====
/-
# The kernel's frames
-/
module

public import proofs.«01_k».proof.Defs
public import proofs.«01_k».proof.Proof.Gen.Kernel
public import proofs.«01_k».proof.Proof.Launch

@[expose] public section

noncomputable section

namespace Cert.CumProd

open Idealize.ShloMosaic Idealize.SL.Sem

/-- The idealized kernel ends on every device, its block of `x` as it was and every semaphore at zero. -/
theorem frame_ideal : Cert.quiescent_KernelIdeal := fun m ρ _ =>
  (θ_run Cert.KernelIdeal.defs _ _).mono (fun _ h => ⟨fun c => (h.1 c (0 : Fin 2)).trans (arr_x m ρ c), h.2⟩) (run_main (F := Ideal) m ρ)

section Same
variable {F : FTy → Type} [FloatOps F]

/-- The two printed bodies are one. -/
theorem body_same : @Cert.Kernel.cc0_body F _ _ = @Cert.KernelIdeal.cc0_body F _ _ := rfl

/-- The two printed body tables are one, -/
theorem defs₀_same : (Cert.Kernel.defs₀ (F := F)) = Cert.KernelIdeal.defs₀ := by
  unfold Cert.Kernel.defs₀ Cert.KernelIdeal.defs₀
  congr 1
  funext ℓ a
  match ℓ, a with
  | 0, (t, s) => exact congrFun rfl _

/-- so the two printed programs' definitions are. -/
theorem defs_same : (Cert.Kernel.defs (F := F)) = Cert.KernelIdeal.defs := by
  unfold Cert.Kernel.defs Cert.KernelIdeal.defs
  rw [defs₀_same]
  rfl

end Same

/-- The kernel as printed does so too: its text is the idealized kernel's, read at the machine's floats. -/
theorem frame_kernel : Cert.quiescent_Kernel := fun m ρ _ => by
  rw [defs_same]
  exact (θ_run Cert.KernelIdeal.defs _ _).mono (fun _ h => ⟨fun c => (h.1 c (0 : Fin 2)).trans (arr_x m ρ c), h.2⟩) (run_main (F := Bits) m ρ)

end Cert.CumProd

end
-- ==== Proof.Algebraic.lean ====
/-
# Both programs compute the same products

Row `i` of device `c`'s block is row `256 c + i` of the whole array, in the argument and in the result.
-/
module

public import proofs.«01_k».proof.Proof.Values
public import proofs.«01_k».proof.Proof.RefValue
public import proofs.«01_k».proof.Proof.Frames

@[expose] public section

noncomputable section

namespace Cert.CumProd

open Cert.KernelIdeal Cert.KernelIdeal.Gen
open Idealize.ShloMosaic Idealize.ShloMosaic.TcCoe Idealize.SL.Sem
open Finset

/-- A block of an array, read at a row. -/
theorem entry_block (c : Fin 16) (v : (Rows 4096).Idx → EReal) {i : ℕ} (hi : i < 256) (j : Fin 256) :
    entry (n := 256) (Layout.block ⟨2, ![256, 256]⟩ ⟨2, ![4096, 256]⟩ 0 16 c v) i j = entry v (256 * c.val + i) j := by
  have hc := c.isLt
  rw [entry_of_lt _ hi, entry_of_lt _ (show 256 * c.val + i < 4096 by omega)]
  refine congrArg v (funext fun a => Fin.ext ?_)
  match a with
  | ⟨0, _⟩ => exact congrArg (· + i) (Nat.mul_comm c.val 256)
  | ⟨1, _⟩ => rfl

variable (m : (ℓ : Loc nD τ sig) → Buf (Elt Ideal) ℓ) (ρ : Dev nD → PrngReg)

/-- The block a device stages is the whole of its argument. -/
theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- The result array ends as the block the device stored. -/
theorem arr_out (c : Dev nD) : (dats m ρ 0 c).arrAt (1 : Fin 2) cfg0.N = outAt m c := by
  have hz : (fun a => (win0_1.index (0 : Fin 1)) a * main_v1.ty.shape.size a) = fun _ => 0 := funext fun a => by fin_cases a <;> decide
  refine (Memref.read_access_unit_zero (Elt Ideal) main_v1 hz (fun a => by fin_cases a <;> decide) _).symm.trans ?_
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- Given the blocks of one array, each device stores its block of the products of that array's columns so far. -/
theorem out_eq (X V : (Rows 4096).Idx → EReal)
    (hm : ∀ c : Dev nD, m ((c.tc : Thread nD τ).loc main_arg0) = Layout.block ⟨2, ![256, 256]⟩ ⟨2, ![4096, 256]⟩ 0 16 c X)
    (hV : ∀ i < 4096, ∀ j : Fin 256, entry V i j = ∏ t ∈ range (i + 1), entry X t j) (c : Dev nD) :
    outAt m c = Layout.block ⟨2, ![256, 256]⟩ ⟨2, ![4096, 256]⟩ 0 16 c V := by
  have hx : ∀ (d : Dev nD) (j : Fin 256), ∀ t < 256, entry (n := 256) (xstg m d) t j = entry X (256 * d.val + t) j := fun d j t ht => by
    rw [xstg_eq]
    exact (congrArg (fun f => entry (n := 256) f t j) (hm d)).trans (entry_block d X ht j)
  have hs : ∀ (j : Fin 256) (d : Dev nD), sent m d (ix2 0 j) = ∏ t ∈ range 256, entry X (256 * d.val + t) j := fun j d =>
    (pay3_eq (xstg m d) j).trans (prod_congr rfl fun t ht => hx d j t (mem_range.mp ht))
  refine funext fun i => ?_
  have hi : (i 0).val < 256 := (i 0).isLt
  have hc : c.val < 16 := c.isLt
  refine (entry_idx (n := 256) (outAt m c) i).trans (Eq.trans ?_ (entry_idx (n := 256) _ i).symm)
  refine (result_eq (sent m) c (xstg m c) (fun t => entry X t (i 1)) (i 1) (hs (i 1)) (hx c (i 1)) hi).trans ?_
  exact (hV _ (show 256 * c.val + (i 0).val < 4096 by omega) (i 1)).symm.trans (entry_block c V hi (i 1)).symm

/-- Over the extended reals the kernel's blocks are the blocks of the reference's result. -/
theorem algebraic : Cert.algebraic_KernelIdeal_ReferenceIdeal := by
  intro m ρ m' ρ' _ hm
  refine ⟨_, (θ_run Cert.KernelIdeal.defs _ _).mono (fun _ h c => ⟨(h.1 c (1 : Fin 2)).trans ((arr_out m ρ c).trans ?_),
      (h.1 c (0 : Fin 2)).trans (arr_x m ρ c)⟩) (run_main (F := Ideal) m ρ),
    (θ_run Cert.ReferenceIdeal.defs _ _).mono (fun _ h => h 0) (Cert.ReferenceIdeal.Value.run (F := Ideal) m' ρ')⟩
  exact out_eq m _ _ hm (fun i hi j => Ref.value_eq m' 0 hi j) c

end Cert.CumProd

end
-- ==== Proof.lean ====
/-
# The certificate's claims

The frames of the kernel, of the idealized kernel and of the reference, and that the last two compute the same products.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.CumProd.frame_kernel, Cert.CumProd.frame_ideal,
    Cert.CumProd.Ref.frame_reference, trivial, Cert.CumProd.algebraic⟩

end Cert.Proof

end
